-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_regular [hPre_inputs_regular : Cert.Pre_inputs_regular.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_regular [hPre_inputs_regular : Cert.Pre_inputs_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_regular [hKernelIdeal : Cert.KernelIdeal.Facts] [hPre_inputs_regular : Cert.Pre_inputs_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_regular [hReferenceIdeal : Cert.ReferenceIdeal.Facts] [hPre_inputs_regular : Cert.Pre_inputs_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_inputs_regular [hKernelIdeal : Cert.KernelIdeal.Facts] [hReferenceIdeal : Cert.ReferenceIdeal.Facts] [hPre_inputs_regular : Cert.Pre_inputs_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_regular : Cert.Pre_inputs_regular.Facts),
    quiescent_Kernel (hKernel := hKernel)
    ∧ quiescent_KernelIdeal (hKernelIdeal := hKernelIdeal)
    ∧ quiescent_KernelIdeal_pre_inputs_regular (hKernelIdeal := hKernelIdeal) (hPre_inputs_regular := hPre_inputs_regular)
    ∧ quiescent_ReferenceIdeal (hReferenceIdeal := hReferenceIdeal)
    ∧ quiescent_ReferenceIdeal_pre_inputs_regular (hReferenceIdeal := hReferenceIdeal) (hPre_inputs_regular := hPre_inputs_regular)
    ∧ preserves_Kernel_KernelIdeal
    ∧ algebraic_KernelIdeal_ReferenceIdeal_pre_inputs_regular (hKernelIdeal := hKernelIdeal) (hReferenceIdeal := hReferenceIdeal) (hPre_inputs_regular := hPre_inputs_regular)
-- ==== Pre_inputs_regular.lean ====
abbrev S400000x32x4 : Shape := ⟨3, ![400000, 32, 4]⟩
abbrev S4x16 : Shape := ⟨2, ![4, 16]⟩
abbrev S16 : Shape := ⟨1, ![16]⟩
abbrev S16x16 : Shape := ⟨2, ![16, 16]⟩
abbrev S400000 : Shape := ⟨1, ![400000]⟩
abbrev S_ : Shape := ⟨0, ![]⟩

class Facts : Prop where
  bcast_S_S400000x32x4 : S_.BroadcastsInDim S400000x32x4 (![] : Fin 0 → Fin S400000x32x4.rank)
  reducesTo_S400000x32x4_S_d0_1_2 : S400000x32x4.ReducesTo [0, 1, 2] S_
  h_S_ : 0 < S_.numel
  bcast_S_S4x16 : S_.BroadcastsInDim S4x16 (![] : Fin 0 → Fin S4x16.rank)
  reducesTo_S4x16_S_d0_1 : S4x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v30 : IVec S_ 1) (main_v32 : IVec S16 1) : IVec S_ 1 :=
  let main_c_13 : IVec S_ 1 := constantI S_ 1 1#1
  let main_v33 : IVec S_ 1 := (fun x v => Host.reduce IntOp.andi x v reducesTo_S16_S_d0 h_S_) main_v32 main_c_13
  let main_v34 : IVec S_ 1 := andi main_v30 main_v33
  let main_v35 : FVec F S16 .f32 := Host.absf main_arg7
  let main_cst_14 : FVec F S_ .f32 := constant S_ .f32 0x7F800000#32
  let main_v36 : FVec F S16 .f32 := broadcastInDim S16 ![] bcast_S_S16 main_cst_14
  let main_v37 : IVec S16 1 := cmpf .olt main_v35 main_v36
  let main_c_15 : IVec S_ 1 := constantI S_ 1 1#1
  let main_v38 : IVec S_ 1 := (fun x v => Host.reduce IntOp.andi x v reducesTo_S16_S_d0 h_S_) main_v37 main_c_15
  let main_v39 : IVec S_ 1 := andi main_v34 main_v38
  let main_cst_16 : FVec F S_ .f32 := constant S_ .f32 0x00000000#32
  let main_v40 : FVec F S16 .f32 := broadcastInDim S16 ![] bcast_S_S16 main_cst_16
  let main_v41 : IVec S16 1 := cmpf .une main_arg7 main_v40
  let main_c_17 : IVec S_ 1 := constantI S_ 1 1#1
  let main_v42 : IVec S_ 1 := (fun x v => Host.reduce IntOp.andi x v reducesTo_S16_S_d0 h_S_) main_v41 main_c_17
  let main_v43 : IVec S_ 1 := andi main_v39 main_v42
  main_v43

def fn_part1 {F : FTy → Type} [FloatOps F] (main_arg3 : FVec F S16 .f32) (main_arg4 : FVec F S16 .f32) (main_arg6 : FVec F S16 .f32) (main_arg7 : FVec F S16 .f32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_cst_6 : FVec F S_ .f32 := constant S_ .f32 0x00000000#32
  let main_v18 : FVec F S16 .f32 := broadcastInDim S16 ![] bcast_S_S16 main_cst_6
  let main_v19 : IVec S16 1 := cmpf .oeq main_arg4 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  let main_cst_8 : FVec F S_ .f32 := constant S_ .f32 0x00000000#32
  let main_v22 : FVec F S16 .f32 := broadcastInDim S16 ![] bcast_S_S16 main_cst_8
  let main_v23 : IVec S16 1 := cmpf .oeq main_arg6 main_v22
  let main_c_9 : IVec S_ 1 := constantI S_ 1 1#1
  let main_v24 : IVec S_ 1 := (fun x v => Host.reduce IntOp.andi x v reducesTo_S16_S_d0 h_S_) main_v23 main_c_9
  let main_v25 : IVec S_ 1 := andi main_v21 main_v24
  let main_v26 : FVec F S16 .f32 := Host.absf main_arg3
  let main_cst_10 : FVec F S_ .f32 := constant S_ .f32 0x7F800000#32
  let main_v27 : FVec F S16 .f32 := broadcastInDim S16 ![] bcast_S_S16 main_cst_10
  let main_v28 : IVec S16 1 := cmpf .olt main_v26 main_v27
  let main_c_11 : IVec S_ 1 := constantI S_ 1 1#1
  let main_v29 : IVec S_ 1 := (fun x v => Host.reduce IntOp.andi x v reducesTo_S16_S_d0 h_S_) main_v28 main_c_11
  let main_v30 : IVec S_ 1 := andi main_v25 main_v29
  let main_cst_12 : FVec F S_ .f32 := constant S_ .f32 0x00000000#32
  let main_v31 : FVec F S16 .f32 := broadcastInDim S16 ![] bcast_S_S16 main_cst_12
  let main_v32 : IVec S16 1 := cmpf .oge main_arg3 main_v31
  fn_part2 (F := F) main_arg7 main_v30 main_v32

def fn {F : FTy → Type} [FloatOps F] (main_arg0 : FVec F S400000x32x4 .f32) (main_arg1 : FVec F S4x16 .f32) (main_arg2 : FVec F S16 .f32) (main_arg3 : FVec F S16 .f32) (main_arg4 : FVec F S16 .f32) (main_arg5 : FVec F S16x16 .f32) (main_arg6 : FVec F S16 .f32) (main_arg7 : FVec F S16 .f32) (main_arg8 : FVec F S16 .f32) (main_arg9 : IVec S400000 32) : IVec S_ 1 :=
  let main_v0 : FVec F S400000x32x4 .f32 := Host.absf main_arg0
  let main_cst : FVec F S_ .f32 := constant S_ .f32 0x7F800000#32
  let main_v1 : FVec F S400000x32x4 .f32 := broadcastInDim S400000x32x4 ![] bcast_S_S400000x32x4 main_cst
  let main_v2 : IVec S400000x32x4 1 := cmpf .olt main_v0 main_v1
  let main_c : IVec S_ 1 := constantI S_ 1 1#1
  let main_v3 : IVec S_ 1 := (fun x v => Host.reduce IntOp.andi x v reducesTo_S400000x32x4_S_d0_1_2 h_S_) main_v2 main_c
  let main_v4 : FVec F S4x16 .f32 := Host.absf main_arg1
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16x16 .f32 := Host.absf main_arg5
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_cst_4 : FVec F S_ .f32 := constant S_ .f32 0x00000000#32
  let main_v14 : FVec F S16 .f32 := broadcastInDim S16 ![] bcast_S_S16 main_cst_4
  let main_v15 : IVec S16 1 := cmpf .oeq main_arg2 main_v14
  let main_c_5 : IVec S_ 1 := constantI S_ 1 1#1
  fn_part1 (F := F) main_arg3 main_arg4 main_arg6 main_arg7 main_v13 main_v15 main_c_5
-- ==== Kernel.lean ====
abbrev S400000x32x4 : Shape := ⟨3, ![400000, 32, 4]⟩
abbrev S4x16 : Shape := ⟨2, ![4, 16]⟩
abbrev S16 : Shape := ⟨1, ![16]⟩
abbrev S16x16 : Shape := ⟨2, ![16, 16]⟩
abbrev S400000 : Shape := ⟨1, ![400000]⟩
abbrev S400000x128 : Shape := ⟨2, ![400000, 128]⟩
abbrev S_ : Shape := ⟨0, ![]⟩
abbrev S32x32 : Shape := ⟨2, ![32, 32]⟩
abbrev S32x1x32x1 : Shape := ⟨4, ![32, 1, 32, 1]⟩
abbrev S1x4x1x16 : Shape := ⟨4, ![1, 4, 1, 16]⟩
abbrev S32x4x32x16 : Shape := ⟨4, ![32, 4, 32, 16]⟩
abbrev S128x512 : Shape := ⟨2, ![128, 512]⟩
abbrev S16x4 : Shape := ⟨2, ![16, 4]⟩
abbrev S4x4 : Shape := ⟨2, ![4, 4]⟩
abbrev S1x4x1x4 : Shape := ⟨4, ![1, 4, 1, 4]⟩
abbrev S32x4x32x4 : Shape := ⟨4, ![32, 4, 32, 4]⟩
abbrev S128x128 : Shape := ⟨2, ![128, 128]⟩
abbrev S128x640 : Shape := ⟨2, ![128, 640]⟩
abbrev S4x1 : Shape := ⟨2, ![4, 1]⟩
abbrev S1 : Shape := ⟨1, ![1]⟩
abbrev S2 : Shape := ⟨1, ![2]⟩
abbrev S1x4x1x1 : Shape := ⟨4, ![1, 4, 1, 1]⟩
abbrev S32x4x32x1 : Shape := ⟨4, ![32, 4, 32, 1]⟩
abbrev S128x32 : Shape := ⟨2, ![128, 32]⟩
abbrev S1x16 : Shape := ⟨2, ![1, 16]⟩
abbrev S1x1x1x16 : Shape := ⟨4, ![1, 1, 1, 16]⟩
abbrev S32x1x32x16 : Shape := ⟨4, ![32, 1, 32, 16]⟩
abbrev S32x512 : Shape := ⟨2, ![32, 512]⟩
abbrev S128x32x1 : Shape := ⟨3, ![128, 32, 1]⟩
abbrev S1x32x512 : Shape := ⟨3, ![1, 32, 512]⟩
abbrev S128x32x512 : Shape := ⟨3, ![128, 32, 512]⟩
abbrev S32x8 : Shape := ⟨2, ![32, 8]⟩
abbrev S32x1x8x1 : Shape := ⟨4, ![32, 1, 8, 1]⟩
abbrev S1x16x1x16 : Shape := ⟨4, ![1, 16, 1, 16]⟩
abbrev S32x16x8x16 : Shape := ⟨4, ![32, 16, 8, 16]⟩
abbrev S512x128 : Shape := ⟨2, ![512, 128]⟩
abbrev S8x16 : Shape := ⟨2, ![8, 16]⟩
abbrev S128 : Shape := ⟨1, ![128]⟩
abbrev S1x128 : Shape := ⟨2, ![1, 128]⟩
abbrev S400000x1 : Shape := ⟨2, ![400000, 1]⟩
abbrev S400000x16 : Shape := ⟨2, ![400000, 16]⟩
abbrev S3200x128 : Shape := ⟨2, ![3200, 128]⟩
abbrev S3200x1 : Shape := ⟨2, ![3200, 1]⟩
abbrev S3200x16 : Shape := ⟨2, ![3200, 16]⟩
abbrev S3200x640 : Shape := ⟨2, ![3200, 640]⟩
abbrev S3200x512 : Shape := ⟨2, ![3200, 512]⟩

abbrev nBuf : Space → Nat
  | .hbm => 135
  | .vmem => 11
  | .smem => 0
  | _ => 0

abbrev hbmTy0_0 (i : Nat) : BufTy := match i % 128 with
  | 0 => ⟨S400000x32x4, .f32⟩
  | 1 => ⟨S4x16, .f32⟩
  | 2 => ⟨S16, .f32⟩
  | 3 => ⟨S16, .f32⟩
  | 4 => ⟨S16, .f32⟩
  | 5 => ⟨S16x16, .f32⟩
  | 6 => ⟨S16, .f32⟩
  | 7 => ⟨S16, .f32⟩
  | 8 => ⟨S16, .f32⟩
  | 9 => ⟨S400000, .i32⟩
  | 10 => ⟨S400000x128, .f32⟩
  | 11 => ⟨S16x16, .i32⟩
  | 12 => ⟨S16x16, .i32⟩
  | 13 => ⟨S_, .i32⟩
  | 14 => ⟨S16x16, .i32⟩
  | 15 => ⟨S16x16, .i32⟩
  | 16 => ⟨S16x16, .i1⟩
  | 17 => ⟨S16x16, .f32⟩
  | 18 => ⟨S_, .f32⟩
  | 19 => ⟨S16x16, .f32⟩
  | 20 => ⟨S16x16, .f32⟩
  | 21 => ⟨S4x16, .f32⟩
  | 22 => ⟨S32x32, .i32⟩
  | 23 => ⟨S32x32, .i32⟩
  | 24 => ⟨S_, .i32⟩
  | 25 => ⟨S32x32, .i32⟩
  | 26 => ⟨S32x32, .i32⟩
  | 27 => ⟨S32x32, .i1⟩
  | 28 => ⟨S32x32, .f32⟩
  | 29 => ⟨S32x1x32x1, .f32⟩
  | 30 => ⟨S1x4x1x16, .f32⟩
  | 31 => ⟨S32x4x32x16, .f32⟩
  | 32 => ⟨S32x4x32x16, .f32⟩
  | 33 => ⟨S32x4x32x16, .f32⟩
  | 34 => ⟨S128x512, .f32⟩
  | 35 => ⟨S16x4, .f32⟩
  | 36 => ⟨S4x4, .f32⟩
  | 37 => ⟨S32x32, .i32⟩
  | 38 => ⟨S32x32, .i32⟩
  | 39 => ⟨S_, .i32⟩
  | 40 => ⟨S32x32, .i32⟩
  | 41 => ⟨S32x32, .i32⟩
  | 42 => ⟨S32x32, .i1⟩
  | 43 => ⟨S32x32, .f32⟩
  | 44 => ⟨S32x1x32x1, .f32⟩
  | 45 => ⟨S1x4x1x4, .f32⟩
  | 46 => ⟨S32x4x32x4, .f32⟩
  | 47 => ⟨S32x4x32x4, .f32⟩
  | 48 => ⟨S32x4x32x4, .f32⟩
  | 49 => ⟨S128x128, .f32⟩
  | 50 => ⟨S128x640, .f32⟩
  | 51 => ⟨S_, .f32⟩
  | 52 => ⟨S4x1, .f32⟩
  | 53 => ⟨S_, .i32⟩
  | 54 => ⟨S1, .i32⟩
  | 55 => ⟨S_, .i32⟩
  | 56 => ⟨S1, .i32⟩
  | 57 => ⟨S2, .i32⟩
  | 58 => ⟨S_, .f32⟩
  | 59 => ⟨S4x1, .f32⟩
  | 60 => ⟨S32x32, .i32⟩
  | 61 => ⟨S32x32, .i32⟩
  | 62 => ⟨S_, .i32⟩
  | 63 => ⟨S32x32, .i32⟩
  | 64 => ⟨S32x32, .i32⟩
  | 65 => ⟨S32x32, .i1⟩
  | 66 => ⟨S32x32, .f32⟩
  | 67 => ⟨S32x1x32x1, .f32⟩
  | 68 => ⟨S1x4x1x1, .f32⟩
  | 69 => ⟨S32x4x32x1, .f32⟩
  | 70 => ⟨S32x4x32x1, .f32⟩
  | 71 => ⟨S32x4x32x1, .f32⟩
  | 72 => ⟨S128x32, .f32⟩
  | 73 => ⟨S32x32, .i32⟩
  | 74 => ⟨S32x32, .i32⟩
  | 75 => ⟨S_, .i32⟩
  | 76 => ⟨S32x32, .i32⟩
  | 77 => ⟨S32x32, .i32⟩
  | 78 => ⟨S32x32, .i1⟩
  | 79 => ⟨S32x32, .f32⟩
  | 80 => ⟨S_, .f32⟩
  | 81 => ⟨S16, .f32⟩
  | 82 => ⟨S16, .f32⟩
  | 83 => ⟨S1x16, .f32⟩
  | 84 => ⟨S32x1x32x1, .f32⟩
  | 85 => ⟨S1x1x1x16, .f32⟩
  | 86 => ⟨S32x1x32x16, .f32⟩
  | 87 => ⟨S32x1x32x16, .f32⟩
  | 88 => ⟨S32x1x32x16, .f32⟩
  | 89 => ⟨S32x512, .f32⟩
  | 90 => ⟨S128x32x1, .f32⟩
  | 91 => ⟨S1x32x512, .f32⟩
  | 92 => ⟨S128x32x512, .f32⟩
  | 93 => ⟨S128x32x512, .f32⟩
  | 94 => ⟨S128x32x512, .f32⟩
  | 95 => ⟨S_, .f32⟩
  | 96 => ⟨S128x512, .f32⟩
  | 97 => ⟨S16x16, .i32⟩
  | 98 => ⟨S16x16, .i32⟩
  | 99 => ⟨S_, .i32⟩
  | 100 => ⟨S16x16, .i32⟩
  | 101 => ⟨S16x16, .i32⟩
  | 102 => ⟨S16x16, .i1⟩
  | 103 => ⟨S16x16, .f32⟩
  | 104 => ⟨S_, .f32⟩
  | 105 => ⟨S16x16, .f32⟩
  | 106 => ⟨S16x16, .f32⟩
  | 107 => ⟨S_, .f32⟩
  | 108 => ⟨S32x8, .f32⟩
  | 109 => ⟨S16x16, .f32⟩
  | 110 => ⟨S1x16, .f32⟩
  | 111 => ⟨S16x16, .f32⟩
  | 112 => ⟨S16x16, .f32⟩
  | 113 => ⟨S32x1x8x1, .f32⟩
  | 114 => ⟨S1x16x1x16, .f32⟩
  | 115 => ⟨S32x16x8x16, .f32⟩
  | 116 => ⟨S32x16x8x16, .f32⟩
  | 117 => ⟨S32x16x8x16, .f32⟩
  | 118 => ⟨S512x128, .f32⟩
  | 119 => ⟨S16, .f32⟩
  | 120 => ⟨S_, .f32⟩
  | 121 => ⟨S16, .f32⟩
  | 122 => ⟨S16, .f32⟩
  | 123 => ⟨S1x16, .f32⟩
  | 124 => ⟨S8x16, .f32⟩
  | 125 => ⟨S128, .f32⟩
  | 126 => ⟨S1x128, .f32⟩
  | 127 => ⟨S1x16, .f32⟩
  | _ => ⟨S400000x32x4, .f32⟩

abbrev hbmTy0_1 (i : Nat) : BufTy := match i % 128 with
  | 0 => ⟨S8x16, .f32⟩
  | 1 => ⟨S128, .f32⟩
  | 2 => ⟨S1x128, .f32⟩
  | 3 => ⟨S400000x1, .i32⟩
  | 4 => ⟨S128x640, .bf16⟩
  | 5 => ⟨S128x512, .bf16⟩
  | 6 => ⟨S400000x16, .f32⟩
  | _ => ⟨S400000x32x4, .f32⟩

abbrev hbmTy (i : Nat) : BufTy := match i / 128 with
  | 0 => hbmTy0_0 i
  | 1 => hbmTy0_1 i
  | _ => ⟨S400000x32x4, .f32⟩

abbrev bufTy : (tb : Table) → Fin (tcTables nBuf tb) → BufTy
  | .hbm, ⟨i, _⟩ => hbmTy i
  | .local _ .vmem, ⟨0, _⟩ => ⟨S3200x128, .f32⟩
  | .local _ .vmem, ⟨1, _⟩ => ⟨S3200x128, .f32⟩
  | .local _ .vmem, ⟨2, _⟩ => ⟨S3200x1, .i32⟩
  | .local _ .vmem, ⟨3, _⟩ => ⟨S3200x1, .i32⟩
  | .local _ .vmem, ⟨4, _⟩ => ⟨S128x640, .bf16⟩
  | .local _ .vmem, ⟨5, _⟩ => ⟨S128x512, .bf16⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S3200x16, .f32⟩
  | .local _ .vmem, ⟨10, _⟩ => ⟨S3200x16, .f32⟩
  | _, _ => ⟨S400000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_c : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_c_1 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_call1_v0 : Ref sig .tc := ⟨.hbm, 44, rfl⟩
abbrev main_call0_call1_v1 : Ref sig .tc := ⟨.hbm, 45, rfl⟩
abbrev main_call0_call1_v2 : Ref sig .tc := ⟨.hbm, 46, rfl⟩
abbrev main_call0_call1_v3 : Ref sig .tc := ⟨.hbm, 47, rfl⟩
abbrev main_call0_call1_v4 : Ref sig .tc := ⟨.hbm, 48, rfl⟩
abbrev main_call0_v25 : Ref sig .tc := ⟨.hbm, 49, rfl⟩
abbrev main_call0_v26 : Ref sig .tc := ⟨.hbm, 50, rfl⟩
abbrev main_call0_cst_2 : Ref sig .tc := ⟨.hbm, 51, rfl⟩
abbrev main_call0_v27 : Ref sig .tc := ⟨.hbm, 52, rfl⟩
abbrev main_call0_c_3 : Ref sig .tc := ⟨.hbm, 53, rfl⟩
abbrev main_call0_v28 : Ref sig .tc := ⟨.hbm, 54, rfl⟩
abbrev main_call0_c_4 : Ref sig .tc := ⟨.hbm, 55, rfl⟩
abbrev main_call0_v29 : Ref sig .tc := ⟨.hbm, 56, rfl⟩
abbrev main_call0_v30 : Ref sig .tc := ⟨.hbm, 57, rfl⟩
abbrev main_call0_cst_5 : Ref sig .tc := ⟨.hbm, 58, rfl⟩
abbrev main_call0_v31 : Ref sig .tc := ⟨.hbm, 59, rfl⟩
abbrev main_call0_v32 : Ref sig .tc := ⟨.hbm, 60, rfl⟩
abbrev main_call0_v33 : Ref sig .tc := ⟨.hbm, 61, rfl⟩
abbrev main_call0_c_6 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_call0_call2_v0 : Ref sig .tc := ⟨.hbm, 67, rfl⟩
abbrev main_call0_call2_v1 : Ref sig .tc := ⟨.hbm, 68, rfl⟩
abbrev main_call0_call2_v2 : Ref sig .tc := ⟨.hbm, 69, rfl⟩
abbrev main_call0_call2_v3 : Ref sig .tc := ⟨.hbm, 70, rfl⟩
abbrev main_call0_call2_v4 : Ref sig .tc := ⟨.hbm, 71, rfl⟩
abbrev main_call0_v38 : Ref sig .tc := ⟨.hbm, 72, rfl⟩
abbrev main_call0_v39 : Ref sig .tc := ⟨.hbm, 73, rfl⟩
abbrev main_call0_v40 : Ref sig .tc := ⟨.hbm, 74, rfl⟩
abbrev main_call0_c_7 : Ref sig .tc := ⟨.hbm, 75, rfl⟩
abbrev main_call0_v41 : Ref sig .tc := ⟨.hbm, 76, rfl⟩
abbrev main_call0_v42 : Ref sig .tc := ⟨.hbm, 77, rfl⟩
abbrev main_call0_v43 : Ref sig .tc := ⟨.hbm, 78, rfl⟩
abbrev main_call0_v44 : Ref sig .tc := ⟨.hbm, 79, rfl⟩
abbrev main_call0_cst_8 : Ref sig .tc := ⟨.hbm, 80, rfl⟩
abbrev main_call0_v45 : Ref sig .tc := ⟨.hbm, 81, rfl⟩
abbrev main_call0_v46 : Ref sig .tc := ⟨.hbm, 82, rfl⟩
abbrev main_call0_v47 : Ref sig .tc := ⟨.hbm, 83, rfl⟩
abbrev main_call0_call3_v0 : Ref sig .tc := ⟨.hbm, 84, rfl⟩
abbrev main_call0_call3_v1 : Ref sig .tc := ⟨.hbm, 85, rfl⟩
abbrev main_call0_call3_v2 : Ref sig .tc := ⟨.hbm, 86, rfl⟩
abbrev main_call0_call3_v3 : Ref sig .tc := ⟨.hbm, 87, rfl⟩
abbrev main_call0_call3_v4 : Ref sig .tc := ⟨.hbm, 88, rfl⟩
abbrev main_call0_v48 : Ref sig .tc := ⟨.hbm, 89, rfl⟩
abbrev main_call0_v49 : Ref sig .tc := ⟨.hbm, 90, rfl⟩
abbrev main_call0_v50 : Ref sig .tc := ⟨.hbm, 91, rfl⟩
abbrev main_call0_v51 : Ref sig .tc := ⟨.hbm, 92, rfl⟩
abbrev main_call0_v52 : Ref sig .tc := ⟨.hbm, 93, rfl⟩
abbrev main_call0_v53 : Ref sig .tc := ⟨.hbm, 94, rfl⟩
abbrev main_call0_cst_9 : Ref sig .tc := ⟨.hbm, 95, rfl⟩
abbrev main_call0_v54 : Ref sig .tc := ⟨.hbm, 96, rfl⟩
abbrev main_call0_v55 : Ref sig .tc := ⟨.hbm, 97, rfl⟩
abbrev main_call0_v56 : Ref sig .tc := ⟨.hbm, 98, rfl⟩
abbrev main_call0_c_10 : Ref sig .tc := ⟨.hbm, 99, rfl⟩
abbrev main_call0_v57 : Ref sig .tc := ⟨.hbm, 100, rfl⟩
abbrev main_call0_v58 : Ref sig .tc := ⟨.hbm, 101, rfl⟩
abbrev main_call0_v59 : Ref sig .tc := ⟨.hbm, 102, rfl⟩
abbrev main_call0_v60 : Ref sig .tc := ⟨.hbm, 103, rfl⟩
abbrev main_call0_cst_11 : Ref sig .tc := ⟨.hbm, 104, rfl⟩
abbrev main_call0_v61 : Ref sig .tc := ⟨.hbm, 105, rfl⟩
abbrev main_call0_v62 : Ref sig .tc := ⟨.hbm, 106, rfl⟩
abbrev main_call0_cst_12 : Ref sig .tc := ⟨.hbm, 107, rfl⟩
abbrev main_call0_v63 : Ref sig .tc := ⟨.hbm, 108, rfl⟩
abbrev main_call0_v64 : Ref sig .tc := ⟨.hbm, 109, rfl⟩
abbrev main_call0_v65 : Ref sig .tc := ⟨.hbm, 110, rfl⟩
abbrev main_call0_v66 : Ref sig .tc := ⟨.hbm, 111, rfl⟩
abbrev main_call0_v67 : Ref sig .tc := ⟨.hbm, 112, rfl⟩
abbrev main_call0_call4_v0 : Ref sig .tc := ⟨.hbm, 113, rfl⟩
abbrev main_call0_call4_v1 : Ref sig .tc := ⟨.hbm, 114, rfl⟩
abbrev main_call0_call4_v2 : Ref sig .tc := ⟨.hbm, 115, rfl⟩
abbrev main_call0_call4_v3 : Ref sig .tc := ⟨.hbm, 116, rfl⟩
abbrev main_call0_call4_v4 : Ref sig .tc := ⟨.hbm, 117, rfl⟩
abbrev main_call0_v68 : Ref sig .tc := ⟨.hbm, 118, rfl⟩
abbrev main_call0_v69 : Ref sig .tc := ⟨.hbm, 119, rfl⟩
abbrev main_call0_cst_13 : Ref sig .tc := ⟨.hbm, 120, rfl⟩
abbrev main_call0_v70 : Ref sig .tc := ⟨.hbm, 121, rfl⟩
abbrev main_call0_v71 : Ref sig .tc := ⟨.hbm, 122, rfl⟩
abbrev main_call0_v72 : Ref sig .tc := ⟨.hbm, 123, rfl⟩
abbrev main_call0_v73 : Ref sig .tc := ⟨.hbm, 124, rfl⟩
abbrev main_call0_v74 : Ref sig .tc := ⟨.hbm, 125, rfl⟩
abbrev main_call0_v75 : Ref sig .tc := ⟨.hbm, 126, rfl⟩
abbrev main_call0_v76 : Ref sig .tc := ⟨.hbm, 127, rfl⟩
abbrev main_call0_v77 : Ref sig .tc := ⟨.hbm, 128, rfl⟩
abbrev main_call0_v78 : Ref sig .tc := ⟨.hbm, 129, rfl⟩
abbrev main_call0_v79 : Ref sig .tc := ⟨.hbm, 130, rfl⟩
abbrev main_call0_v80 : Ref sig .tc := ⟨.hbm, 131, rfl⟩
abbrev main_call0_v81 : Ref sig .tc := ⟨.hbm, 132, rfl⟩
abbrev main_call0_v82 : Ref sig .tc := ⟨.hbm, 133, rfl⟩
abbrev main_v0 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S400000x32x4 : Shape := ⟨3, ![400000, 32, 4]⟩
abbrev S4x16 : Shape := ⟨2, ![4, 16]⟩
abbrev S16 : Shape := ⟨1, ![16]⟩
abbrev S16x16 : Shape := ⟨2, ![16, 16]⟩
abbrev S400000 : Shape := ⟨1, ![400000]⟩
abbrev S32 : Shape := ⟨1, ![32]⟩
abbrev S1x32 : Shape := ⟨2, ![1, 32]⟩
abbrev S400000x1 : Shape := ⟨2, ![400000, 1]⟩
abbrev S400000x32 : Shape := ⟨2, ![400000, 32]⟩
abbrev S400000x32x16 : Shape := ⟨3, ![400000, 32, 16]⟩
abbrev S1x1x16 : Shape := ⟨3, ![1, 1, 16]⟩
abbrev S_ : Shape := ⟨0, ![]⟩
abbrev S400000x32x1 : Shape := ⟨3, ![400000, 32, 1]⟩
abbrev S400000x16 : Shape := ⟨2, ![400000, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S400000x32x4, .f32⟩
  | .hbm, ⟨1, _⟩ => ⟨S4x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S400000, .i32⟩
  | .hbm, ⟨10, _⟩ => ⟨S32, .i32⟩
  | .hbm, ⟨11, _⟩ => ⟨S1x32, .i32⟩
  | .hbm, ⟨12, _⟩ => ⟨S400000x1, .i32⟩
  | .hbm, ⟨13, _⟩ => ⟨S400000x32, .i32⟩
  | .hbm, ⟨14, _⟩ => ⟨S400000x32, .i32⟩
  | .hbm, ⟨15, _⟩ => ⟨S400000x32, .i1⟩
  | .hbm, ⟨16, _⟩ => ⟨S400000x32, .f32⟩
  | .hbm, ⟨17, _⟩ => ⟨S400000x32x16, .f32⟩
  | .hbm, ⟨18, _⟩ => ⟨S1x1x16, .f32⟩
  | .hbm, ⟨19, _⟩ => ⟨S400000x32x16, .f32⟩
  | .hbm, ⟨20, _⟩ => ⟨S400000x32x16, .f32⟩
  | .hbm, ⟨21, _⟩ => ⟨S_, .f32⟩
  | .hbm, ⟨22, _⟩ => ⟨S400000x32, .f32⟩
  | .hbm, ⟨23, _⟩ => ⟨S400000x32x1, .f32⟩
  | .hbm, ⟨24, _⟩ => ⟨S_, .f32⟩
  | .hbm, ⟨25, _⟩ => ⟨S400000x32x1, .f32⟩
  | .hbm, ⟨26, _⟩ => ⟨S400000x32x1, .f32⟩
  | .hbm, ⟨27, _⟩ => ⟨S_, .i32⟩
  | .hbm, ⟨28, _⟩ => ⟨S_, .f32⟩
  | .hbm, ⟨29, _⟩ => ⟨S400000x32, .f32⟩
  | .hbm, ⟨30, _⟩ => ⟨S400000x32x1, .f32⟩
  | .hbm, ⟨31, _⟩ => ⟨S_, .f32⟩
  | .hbm, ⟨32, _⟩ => ⟨S400000x32x1, .f32⟩
  | .hbm, ⟨33, _⟩ => ⟨S400000x32x1, .f32⟩
  | .hbm, ⟨34, _⟩ => ⟨S400000x32x16, .f32⟩
  | .hbm, ⟨35, _⟩ => ⟨S400000x32x16, .f32⟩
  | .hbm, ⟨36, _⟩ => ⟨S400000x32x16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S400000x32, .f32⟩
  | .hbm, ⟨42, _⟩ => ⟨S400000x32x1, .f32⟩
  | .hbm, ⟨43, _⟩ => ⟨S400000x32x1, .f32⟩
  | .hbm, ⟨44, _⟩ => ⟨S400000x32x1, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S400000x32x1, .f32⟩
  | .hbm, ⟨50, _⟩ => ⟨S400000x32x1, .f32⟩
  | .hbm, ⟨51, _⟩ => ⟨S400000x32x16, .f32⟩
  | .hbm, ⟨52, _⟩ => ⟨S400000x32x16, .f32⟩
  | .hbm, ⟨53, _⟩ => ⟨S_, .f32⟩
  | .hbm, ⟨54, _⟩ => ⟨S400000x32x1, .f32⟩
  | .hbm, ⟨55, _⟩ => ⟨S400000x32x1, .f32⟩
  | .hbm, ⟨56, _⟩ => ⟨S400000x32x1, .f32⟩
  | .hbm, ⟨57, _⟩ => ⟨S400000x32x16, .f32⟩
  | .hbm, ⟨58, _⟩ => ⟨S400000x32x16, .f32⟩
  | .hbm, ⟨59, _⟩ => ⟨S1x1x16, .f32⟩
  | .hbm, ⟨60, _⟩ => ⟨S400000x32x16, .f32⟩
  | .hbm, ⟨61, _⟩ => ⟨S400000x32x16, .f32⟩
  | .hbm, ⟨62, _⟩ => ⟨S1x1x16, .f32⟩
  | .hbm, ⟨63, _⟩ => ⟨S400000x32x16, .f32⟩
  | .hbm, ⟨64, _⟩ => ⟨S400000x32x16, .f32⟩
  | .hbm, ⟨65, _⟩ => ⟨S_, .f32⟩
  | .hbm, ⟨66, _⟩ => ⟨S400000x32x16, .f32⟩
  | .hbm, ⟨67, _⟩ => ⟨S400000x32x16, .f32⟩
  | .hbm, ⟨68, _⟩ => ⟨S400000x32x16, .f32⟩
  | .hbm, ⟨69, _⟩ => ⟨S1x1x16, .f32⟩
  | .hbm, ⟨70, _⟩ => ⟨S400000x32x16, .f32⟩
  | .hbm, ⟨71, _⟩ => ⟨S400000x32x16, .f32⟩
  | .hbm, ⟨72, _⟩ => ⟨S400000x32x1, .f32⟩
  | .hbm, ⟨73, _⟩ => ⟨S400000x32x16, .f32⟩
  | .hbm, ⟨74, _⟩ => ⟨S400000x32x16, .f32⟩
  | .hbm, ⟨75, _⟩ => ⟨S_, .f32⟩
  | .hbm, ⟨76, _⟩ => ⟨S400000x16, .f32⟩
  | .hbm, ⟨77, _⟩ => ⟨S_, .f32⟩
  | .hbm, ⟨78, _⟩ => ⟨S400000, .f32⟩
  | .hbm, ⟨79, _⟩ => ⟨S400000x1, .f32⟩
  | .hbm, ⟨80, _⟩ => ⟨S_, .f32⟩
  | .hbm, ⟨81, _⟩ => ⟨S400000x1, .f32⟩
  | .hbm, ⟨82, _⟩ => ⟨S400000x1, .f32⟩
  | .hbm, ⟨83, _⟩ => ⟨S_, .i32⟩
  | .hbm, ⟨84, _⟩ => ⟨S_, .f32⟩
  | .hbm, ⟨85, _⟩ => ⟨S400000, .f32⟩
  | .hbm, ⟨86, _⟩ => ⟨S400000x1, .f32⟩
  | .hbm, ⟨87, _⟩ => ⟨S_, .f32⟩
  | .hbm, ⟨88, _⟩ => ⟨S400000x1, .f32⟩
  | .hbm, ⟨89, _⟩ => ⟨S400000x1, .f32⟩
  | .hbm, ⟨90, _⟩ => ⟨S400000x16, .f32⟩
  | .hbm, ⟨91, _⟩ => ⟨S400000x16, .f32⟩
  | .hbm, ⟨92, _⟩ => ⟨S400000x16, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S400000, .f32⟩
  | .hbm, ⟨98, _⟩ => ⟨S400000x1, .f32⟩
  | .hbm, ⟨99, _⟩ => ⟨S400000x1, .f32⟩
  | .hbm, ⟨100, _⟩ => ⟨S400000x1, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S400000x1, .f32⟩
  | .hbm, ⟨106, _⟩ => ⟨S400000x1, .f32⟩
  | .hbm, ⟨107, _⟩ => ⟨S400000x16, .f32⟩
  | .hbm, ⟨108, _⟩ => ⟨S400000x16, .f32⟩
  | .hbm, ⟨109, _⟩ => ⟨S_, .f32⟩
  | .hbm, ⟨110, _⟩ => ⟨S400000x1, .f32⟩
  | .hbm, ⟨111, _⟩ => ⟨S400000x1, .f32⟩
  | .hbm, ⟨112, _⟩ => ⟨S400000x1, .f32⟩
  | .hbm, ⟨113, _⟩ => ⟨S400000x16, .f32⟩
  | .hbm, ⟨114, _⟩ => ⟨S400000x16, .f32⟩
  | .hbm, ⟨115, _⟩ => ⟨S1x16, .f32⟩
  | .hbm, ⟨116, _⟩ => ⟨S400000x16, .f32⟩
  | .hbm, ⟨117, _⟩ => ⟨S400000x16, .f32⟩
  | .hbm, ⟨118, _⟩ => ⟨S1x16, .f32⟩
  | .hbm, ⟨119, _⟩ => ⟨S400000x16, .f32⟩
  | .hbm, ⟨120, _⟩ => ⟨S400000x16, .f32⟩
  | _, _ => ⟨S400000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call1_cst : Ref sig .tc := ⟨.hbm, 65, rfl⟩
abbrev main_call1_v0 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_2 : Ref sig .tc := ⟨.hbm, 75, rfl⟩
abbrev main_v37 : Ref sig .tc := ⟨.hbm, 76, rfl⟩
abbrev main_cst_3 : Ref sig .tc := ⟨.hbm, 77, rfl⟩
abbrev main_v38 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_v41 : Ref sig .tc := ⟨.hbm, 82, rfl⟩
abbrev main_c_5 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_6 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩

abbrev nD : Nat := 1
abbrev τ : Topo := Topo.v7x

variable {F : FTy → Type} [FloatOps F]
-- ==== Proof.RealMath.lean ====
/- The two computations over the real numbers, and that they agree.
   `refOut` is the reference: per point a linear layer, a normalisation over its 16 channels, a rectifier and a second
   linear layer; the live points summed; a normalisation over the 16 sums. `lanesOut` is the kernel's arrangement of the
   same over 128 lanes: a point's four coordinates lie on four neighbouring lanes, the means are folded into the weights,
   the squared deviations come from a quadratic form in the coordinates and are added up by rotations of the lanes. -/
module

public import Mathlib.Analysis.SpecialFunctions.Pow.NNReal
public import Mathlib.Algebra.BigOperators.Fin
public import Mathlib.Algebra.BigOperators.Field

@[expose] public section

noncomputable section

namespace Cert.Voxel

/-! ## Lanes -/

/-- The lane of coordinate `i` of point `p`. -/
def lane (p : Fin 32) (i : Fin 4) : Fin 128 := ⟨4 * p.val + i.val, by omega⟩

/-- The lane of channel `h` of point `p` among the 512 channel lanes. -/
def chan (p : Fin 32) (h : Fin 16) : Fin 512 := ⟨16 * p.val + h.val, by omega⟩

/-- The point a lane belongs to. -/
def lanePt (l : Fin 128) : Fin 32 := ⟨l.val / 4, by omega⟩
/-- The coordinate a lane holds. -/
def laneCo (l : Fin 128) : Fin 4 := ⟨l.val % 4, by omega⟩
/-- The point a channel lane belongs to. -/
def chanPt (q : Fin 512) : Fin 32 := ⟨q.val / 16, by omega⟩
/-- The channel a channel lane holds. -/
def chanCh (q : Fin 512) : Fin 16 := ⟨q.val % 16, by omega⟩
/-- The output channel an output lane holds. -/
def outCh (l : Fin 128) : Fin 16 := ⟨l.val % 16, by omega⟩
/-- Output channel `o`'s first lane. -/
def outLane (o : Fin 16) : Fin 128 := ⟨o.val, by omega⟩
/-- Channel lane `q` as a column of the widened weights. -/
def headCol (q : Fin 512) : Fin 640 := ⟨q.val, by omega⟩
/-- Lane `l`'s column of the quadratic form among the widened weights' columns. -/
def tailCol (l : Fin 128) : Fin 640 := ⟨512 + l.val, by omega⟩

@[simp] theorem lanePt_lane (p : Fin 32) (i : Fin 4) : lanePt (lane p i) = p := Fin.ext (by simp only [lanePt, lane]; omega)
@[simp] theorem laneCo_lane (p : Fin 32) (i : Fin 4) : laneCo (lane p i) = i := Fin.ext (by simp only [laneCo, lane]; omega)
@[simp] theorem chanPt_chan (p : Fin 32) (h : Fin 16) : chanPt (chan p h) = p := Fin.ext (by simp only [chanPt, chan]; omega)
@[simp] theorem chanCh_chan (p : Fin 32) (h : Fin 16) : chanCh (chan p h) = h := Fin.ext (by simp only [chanCh, chan]; omega)
@[simp] theorem outCh_outLane (o : Fin 16) : outCh (outLane o) = o := Fin.ext (by simp only [outCh, outLane]; omega)

/-- A sum over the lanes is a sum over points and coordinates. -/
theorem sum_lanes {M : Type*} [AddCommMonoid M] (f : Fin 128 → M) : ∑ l, f l = ∑ p, ∑ i, f (lane p i) := by
  rw [← Equiv.sum_comp (finProdFinEquiv : Fin 32 × Fin 4 ≃ Fin 128), Fintype.sum_prod_type]
  exact Finset.sum_congr rfl fun p _ => Finset.sum_congr rfl fun i _ =>
    congrArg f (Fin.ext (by simp only [finProdFinEquiv, lane, Equiv.coe_fn_mk]; omega))

/-- A sum over the channel lanes is a sum over points and channels. -/
theorem sum_chans {M : Type*} [AddCommMonoid M] (f : Fin 512 → M) : ∑ q, f q = ∑ p, ∑ h, f (chan p h) := by
  rw [← Equiv.sum_comp (finProdFinEquiv : Fin 32 × Fin 16 ≃ Fin 512), Fintype.sum_prod_type]
  exact Finset.sum_congr rfl fun p _ => Finset.sum_congr rfl fun i _ =>
    congrArg f (Fin.ext (by simp only [finProdFinEquiv, chan, Equiv.coe_fn_mk]; omega))

/-! ## The reference -/

/-- The small number added to a variance: the nearest 32-bit float to 1e-5. -/
def eps : ℝ := 10995116 / 2 ^ 40

theorem eps_pos : 0 < eps := by unfold eps; positivity

/-- The mean of 16 numbers. -/
def mean (y : Fin 16 → ℝ) : ℝ := (∑ h, y h) / 16
/-- Their variance. -/
def var (y : Fin 16 → ℝ) : ℝ := (∑ h, (y h - mean y) * (y h - mean y)) / 16
/-- The reciprocal standard deviation, from a variance. -/
def inv (v : ℝ) : ℝ := (Real.sqrt (v + eps))⁻¹
/-- The normalisation with scale `g`. -/
def norm (y g : Fin 16 → ℝ) (h : Fin 16) : ℝ := (y h - mean y) * inv (var y) * g h

/-- A linear layer's value for one point. -/
def lin (X : Fin 32 → Fin 4 → ℝ) (W : Fin 4 → Fin 16 → ℝ) (p : Fin 32) (h : Fin 16) : ℝ := ∑ k, X p k * W k h

/-- The second layer's value for one point. -/
def second (X : Fin 32 → Fin 4 → ℝ) (W1 : Fin 4 → Fin 16 → ℝ) (g1 : Fin 16 → ℝ) (W2 : Fin 16 → Fin 16 → ℝ)
    (p : Fin 32) (o : Fin 16) : ℝ := ∑ h, max (norm (lin X W1 p) g1 h) 0 * W2 h o

/-- The live points' second layers summed. -/
def pooled (X : Fin 32 → Fin 4 → ℝ) (W1 : Fin 4 → Fin 16 → ℝ) (g1 : Fin 16 → ℝ) (W2 : Fin 16 → Fin 16 → ℝ)
    (live : Fin 32 → Bool) (o : Fin 16) : ℝ := ∑ p, second X W1 g1 W2 p o * (if live p then 1 else 0)

/-- The reference's result for one voxel, without the last offset. -/
def refOut (X : Fin 32 → Fin 4 → ℝ) (W1 : Fin 4 → Fin 16 → ℝ) (g1 : Fin 16 → ℝ) (W2 : Fin 16 → Fin 16 → ℝ)
    (g2 : Fin 16 → ℝ) (live : Fin 32 → Bool) (o : Fin 16) : ℝ := norm (pooled X W1 g1 W2 live) g2 o

theorem var_nonneg (y : Fin 16 → ℝ) : 0 ≤ var y :=
  div_nonneg (Finset.sum_nonneg fun _ _ => mul_self_nonneg _) (by norm_num)

theorem inv_nonneg (v : ℝ) : 0 ≤ inv v := _root_.inv_nonneg.2 (Real.sqrt_nonneg _)

/-! ## The kernel's arrangement -/

/-- The lane `k` before `l`, cyclically. -/
def back (k : ℕ) (l : Fin 128) : Fin 128 := ⟨(l.val + 128 - k % 128) % 128, Nat.mod_lt _ (by norm_num)⟩

/-- Every lane with the lane `k` before it added. -/
def twice {M : Type*} [Add M] (k : ℕ) (f : Fin 128 → M) (l : Fin 128) : M := f l + f (back k l)

/-- The first product: the lanes times the widened weights. -/
def prod1 (x : Fin 128 → ℝ) (wa : Fin 128 → Fin 640 → ℝ) (q : Fin 640) : ℝ := ∑ l, x l * wa l q

/-- The quadratic form's value on each lane, four lanes added up. -/
def quad (x : Fin 128 → ℝ) (wa : Fin 128 → Fin 640 → ℝ) : Fin 128 → ℝ :=
  twice 2 (twice 1 fun l => x l * prod1 x wa (tailCol l))

/-- The reciprocal root of each lane's quadratic form. -/
def scale (x : Fin 128 → ℝ) (wa : Fin 128 → Fin 640 → ℝ) (l : Fin 128) : ℝ := (Real.sqrt (|quad x wa l| + 16 * eps))⁻¹

/-- The second product: the live lanes' scales spread over the channel lanes. -/
def spread (x : Fin 128 → ℝ) (wa : Fin 128 → Fin 640 → ℝ) (live : Fin 32 → Bool) (be : Fin 128 → Fin 512 → ℝ)
    (q : Fin 512) : ℝ := ∑ l, (if live (lanePt l) then scale x wa l else 0) * be l q

/-- The third product: the rectified, scaled channels pooled. -/
def poolLane (x : Fin 128 → ℝ) (wa : Fin 128 → Fin 640 → ℝ) (live : Fin 32 → Bool) (be : Fin 128 → Fin 512 → ℝ)
    (wp : Fin 512 → Fin 128 → ℝ) (l : Fin 128) : ℝ :=
  ∑ q, (max (prod1 x wa (headCol q)) 0 * spread x wa live be q) * wp q l

/-- Sixteen neighbouring lanes added up. -/
def twice16 {M : Type*} [Add M] (f : Fin 128 → M) : Fin 128 → M := twice 8 (twice 4 (twice 2 (twice 1 f)))

/-- The result on each lane from the pooled lanes `pc`. -/
def finish (pc ig : Fin 128 → ℝ) (l : Fin 128) : ℝ :=
  pc l * (Real.sqrt (twice16 (fun l => pc l * pc l * ig l) l * (1 / 16) + eps))⁻¹

/-- The kernel's result for one voxel, without the last offset. -/
def lanesOut (x : Fin 128 → ℝ) (wa : Fin 128 → Fin 640 → ℝ) (live : Fin 32 → Bool) (be : Fin 128 → Fin 512 → ℝ)
    (wp : Fin 512 → Fin 128 → ℝ) (ig : Fin 128 → ℝ) (l : Fin 128) : ℝ := finish (poolLane x wa live be wp) ig l

/-! ## The arrays the kernel is given -/

/-- Weights with each row's mean taken out. -/
def centred {n : ℕ} (W : Fin n → Fin 16 → ℝ) (k : Fin n) (h : Fin 16) : ℝ :=
  ∑ j, W k j * ((if j = h then 1 else 0) - 1 / 16)

/-- The Gram matrix of the centred weights. -/
def gram (W : Fin 4 → Fin 16 → ℝ) (i j : Fin 4) : ℝ := ∑ h, centred W i h * centred W j h

theorem centred_eq {n : ℕ} (W : Fin n → Fin 16 → ℝ) (k : Fin n) (h : Fin 16) : centred W k h = W k h - mean (W k) := by
  unfold centred mean
  simp only [mul_sub, Finset.sum_sub_distrib, mul_ite, mul_one, mul_zero, Finset.sum_ite_eq', Finset.mem_univ, if_true]
  rw [← Finset.sum_mul]; ring

theorem lin_centred (X : Fin 32 → Fin 4 → ℝ) (W : Fin 4 → Fin 16 → ℝ) (p : Fin 32) (h : Fin 16) :
    lin X (centred W) p h = lin X W p h - mean (lin X W p) := by
  simp only [lin, centred_eq, mean, mul_sub, Finset.sum_sub_distrib]
  rw [Finset.sum_comm, Finset.sum_div]
  congr 1
  refine Finset.sum_congr rfl fun k _ => ?_
  rw [← Finset.mul_sum]; ring

section Arrays
variable {X : Fin 32 → Fin 4 → ℝ} {W1 : Fin 4 → Fin 16 → ℝ} {g1 : Fin 16 → ℝ} {W2 : Fin 16 → Fin 16 → ℝ} {g2 : Fin 16 → ℝ}
variable {x : Fin 128 → ℝ} {wa : Fin 128 → Fin 640 → ℝ} {be : Fin 128 → Fin 512 → ℝ} {wp : Fin 512 → Fin 128 → ℝ} {ig : Fin 128 → ℝ}
variable (live : Fin 32 → Bool)

/-- The first product's channel lanes are the linear layer with its mean taken out. -/
theorem prod1_head (hx : ∀ l, x l = X (lanePt l) (laneCo l))
    (hh : ∀ l q, wa l (headCol q) = (if lanePt l = chanPt q then 1 else 0) * centred W1 (laneCo l) (chanCh q))
    (p : Fin 32) (h : Fin 16) : prod1 x wa (headCol (chan p h)) = lin X W1 p h - mean (lin X W1 p) := by
  rw [← lin_centred]
  unfold prod1 lin
  rw [sum_lanes]
  simp only [hx, hh, lanePt_lane, laneCo_lane, chanPt_chan, chanCh_chan]
  rw [Finset.sum_eq_single p (fun p' _ hp => Finset.sum_eq_zero fun i _ => by rw [if_neg hp]; ring)
    (fun hp => absurd (Finset.mem_univ p) hp)]
  exact Finset.sum_congr rfl fun i _ => by rw [if_pos rfl]; ring

/-- The quadratic form's lanes before the rotations. -/
theorem prod1_tail (hx : ∀ l, x l = X (lanePt l) (laneCo l))
    (ht : ∀ l l', wa l (tailCol l') = (if lanePt l = lanePt l' then 1 else 0) * gram W1 (laneCo l) (laneCo l'))
    (p : Fin 32) (i : Fin 4) : prod1 x wa (tailCol (lane p i)) = ∑ j, X p j * gram W1 j i := by
  unfold prod1
  rw [sum_lanes]
  simp only [hx, ht, lanePt_lane, laneCo_lane]
  rw [Finset.sum_eq_single p (fun p' _ hp => Finset.sum_eq_zero fun i _ => by rw [if_neg hp]; ring)
    (fun hp => absurd (Finset.mem_univ p) hp)]
  exact Finset.sum_congr rfl fun i _ => by rw [if_pos rfl]; ring

theorem back_lane_one (p : Fin 32) (i : Fin 3) : back 1 (lane p i.succ) = lane p i.castSucc :=
  Fin.ext (by simp only [back, lane, Fin.val_succ, Fin.val_castSucc]; omega)
theorem back_lane_two (p : Fin 32) (i : Fin 2) : back 2 (lane p i.succ.succ) = lane p i.castSucc.castSucc :=
  Fin.ext (by simp only [back, lane, Fin.val_succ, Fin.val_castSucc]; omega)

/-- Four lanes added up, at a point's last lane. -/
theorem twice_two_one (f : Fin 128 → ℝ) (p : Fin 32) : twice 2 (twice 1 f) (lane p 3) = ∑ i, f (lane p i) := by
  have h2 : back 2 (lane p 3) = lane p 1 := back_lane_two p 1
  have h3 : back 1 (lane p 3) = lane p 2 := back_lane_one p 2
  have h1 : back 1 (lane p 1) = lane p 0 := back_lane_one p 0
  simp only [twice, h2, h3, h1, Fin.sum_univ_four]
  ring

/-- A point's quadratic form is 16 times the variance of its linear layer. -/
theorem quad_eq (hx : ∀ l, x l = X (lanePt l) (laneCo l))
    (ht : ∀ l l', wa l (tailCol l') = (if lanePt l = lanePt l' then 1 else 0) * gram W1 (laneCo l) (laneCo l'))
    (p : Fin 32) : quad x wa (lane p 3) = 16 * var (lin X W1 p) := by
  unfold quad
  rw [twice_two_one]
  simp only [prod1_tail hx ht, hx, lanePt_lane, laneCo_lane]
  unfold var
  simp only [← lin_centred]
  rw [mul_div_cancel₀ _ (by norm_num : (16 : ℝ) ≠ 0)]
  simp only [gram, lin, Finset.mul_sum, Finset.sum_mul]
  rw [Finset.sum_congr rfl fun i _ => Finset.sum_comm, Finset.sum_comm]
  refine Finset.sum_congr rfl fun h _ => ?_
  rw [Finset.sum_comm]
  exact Finset.sum_congr rfl fun i _ => Finset.sum_congr rfl fun j _ => by ring

theorem scale_eq (hx : ∀ l, x l = X (lanePt l) (laneCo l))
    (ht : ∀ l l', wa l (tailCol l') = (if lanePt l = lanePt l' then 1 else 0) * gram W1 (laneCo l) (laneCo l'))
    (p : Fin 32) : scale x wa (lane p 3) * 4 = inv (var (lin X W1 p)) := by
  unfold scale inv
  rw [quad_eq hx ht, abs_of_nonneg (mul_nonneg (by norm_num) (var_nonneg _)), ← mul_add,
    show (16 : ℝ) = 4 ^ 2 by norm_num, Real.sqrt_mul (by norm_num), Real.sqrt_sq (by norm_num), mul_inv]
  ring

theorem spread_eq (hx : ∀ l, x l = X (lanePt l) (laneCo l))
    (ht : ∀ l l', wa l (tailCol l') = (if lanePt l = lanePt l' then 1 else 0) * gram W1 (laneCo l) (laneCo l'))
    (hb : ∀ l q, be l q = if laneCo l = 3 ∧ lanePt l = chanPt q then 4 * g1 (chanCh q) else 0)
    (p : Fin 32) (h : Fin 16) :
    spread x wa live be (chan p h) = (if live p then 1 else 0) * inv (var (lin X W1 p)) * g1 h := by
  unfold spread
  rw [Finset.sum_eq_single (lane p 3)]
  · have e : be (lane p 3) (chan p h) = 4 * g1 h := by
      rw [hb, lanePt_lane, laneCo_lane, chanPt_chan, chanCh_chan, if_pos ⟨rfl, rfl⟩]
    rw [e, lanePt_lane, ← scale_eq hx ht]
    split_ifs <;> ring
  · intro l _ hl
    suffices e : be l (chan p h) = 0 by rw [e, mul_zero]
    rw [hb, if_neg]
    rintro ⟨h3, hp⟩
    refine hl (Fin.ext ?_)
    have h3' := congrArg Fin.val h3
    have hp' := congrArg Fin.val hp
    rw [chanPt_chan] at hp'
    simp only [laneCo, lanePt, lane] at *
    omega
  · exact fun hp => absurd (Finset.mem_univ _) hp

/-- Rectifying before scaling by nonnegative factors is rectifying after. -/
theorem max_norm (y g : Fin 16 → ℝ) (h : Fin 16) (hg : 0 ≤ g h) :
    max (y h - mean y) 0 * (inv (var y) * g h) = max (norm y g h) 0 := by
  unfold norm
  rw [max_mul_of_nonneg _ _ (mul_nonneg (inv_nonneg _) hg), zero_mul, mul_assoc]

theorem mean_pooled (X : Fin 32 → Fin 4 → ℝ) (W1 : Fin 4 → Fin 16 → ℝ) (g1 : Fin 16 → ℝ) (W2 : Fin 16 → Fin 16 → ℝ) :
    mean (pooled X W1 g1 W2 live)
      = ∑ p, ∑ h, max (norm (lin X W1 p) g1 h) 0 * mean (W2 h) * (if live p then 1 else 0) := by
  unfold mean pooled second
  rw [Finset.sum_comm, Finset.sum_div]
  refine Finset.sum_congr rfl fun p _ => ?_
  rw [← Finset.sum_mul, Finset.sum_comm, Finset.sum_mul, Finset.sum_div]
  refine Finset.sum_congr rfl fun h _ => ?_
  rw [← Finset.mul_sum]; ring

theorem poolLane_eq (hx : ∀ l, x l = X (lanePt l) (laneCo l))
    (hh : ∀ l q, wa l (headCol q) = (if lanePt l = chanPt q then 1 else 0) * centred W1 (laneCo l) (chanCh q))
    (ht : ∀ l l', wa l (tailCol l') = (if lanePt l = lanePt l' then 1 else 0) * gram W1 (laneCo l) (laneCo l'))
    (hb : ∀ l q, be l q = if laneCo l = 3 ∧ lanePt l = chanPt q then 4 * g1 (chanCh q) else 0)
    (hw : ∀ q l, wp q l = centred W2 (chanCh q) (outCh l) * g2 (outCh l))
    (hg1 : ∀ h, 0 ≤ g1 h) (l : Fin 128) :
    poolLane x wa live be wp l
      = (pooled X W1 g1 W2 live (outCh l) - mean (pooled X W1 g1 W2 live)) * g2 (outCh l) := by
  rw [mean_pooled]
  unfold poolLane pooled second
  rw [sum_chans, ← Finset.sum_sub_distrib, Finset.sum_mul]
  refine Finset.sum_congr rfl fun p _ => ?_
  rw [Finset.sum_mul, ← Finset.sum_sub_distrib, Finset.sum_mul]
  refine Finset.sum_congr rfl fun h _ => ?_
  rw [prod1_head hx hh, spread_eq live hx ht hb, hw, chanCh_chan, centred_eq, ← max_norm _ _ _ (hg1 h)]
  ring

/-- Sixteen lanes of a function of the output channel, added up, are its sum over the channels. -/
theorem twice16_eq (S : Fin 16 → ℝ) (o : Fin 16) : twice16 (fun l => S (outCh l)) (outLane o) = ∑ k, S k := by
  fin_cases o <;> simp [twice16, twice, back, outCh, outLane, Fin.sum_univ_succ] <;> ring

/-- The two computations agree. -/
theorem lanesOut_eq (hx : ∀ l, x l = X (lanePt l) (laneCo l))
    (hh : ∀ l q, wa l (headCol q) = (if lanePt l = chanPt q then 1 else 0) * centred W1 (laneCo l) (chanCh q))
    (ht : ∀ l l', wa l (tailCol l') = (if lanePt l = lanePt l' then 1 else 0) * gram W1 (laneCo l) (laneCo l'))
    (hb : ∀ l q, be l q = if laneCo l = 3 ∧ lanePt l = chanPt q then 4 * g1 (chanCh q) else 0)
    (hw : ∀ q l, wp q l = centred W2 (chanCh q) (outCh l) * g2 (outCh l))
    (hi : ∀ l, ig l = 1 / (g2 (outCh l) * g2 (outCh l)))
    (hg1 : ∀ h, 0 ≤ g1 h) (hg2 : ∀ h, g2 h ≠ 0) (o : Fin 16) :
    lanesOut x wa live be wp ig (outLane o) = refOut X W1 g1 W2 g2 live o := by
  unfold lanesOut refOut finish
  have hs : (fun l => poolLane x wa live be wp l * poolLane x wa live be wp l * ig l)
      = fun l => (fun k => (pooled X W1 g1 W2 live k - mean (pooled X W1 g1 W2 live))
          * (pooled X W1 g1 W2 live k - mean (pooled X W1 g1 W2 live))) (outCh l) := by
    funext l
    rw [poolLane_eq live hx hh ht hb hw hg1, hi]
    have := hg2 (outCh l)
    field_simp
  rw [hs, twice16_eq fun k => (pooled X W1 g1 W2 live k - mean (pooled X W1 g1 W2 live))
          * (pooled X W1 g1 W2 live k - mean (pooled X W1 g1 W2 live)), poolLane_eq live hx hh ht hb hw hg1, outCh_outLane]
  unfold norm inv var
  rw [mul_one_div]
  ring

end Arrays

/-- The sum under the last root is not negative. -/
theorem twice16_nonneg (f : Fin 128 → ℝ) (hf : ∀ l, 0 ≤ f l) (l : Fin 128) : 0 ≤ twice16 f l := by
  have ht : ∀ (k : ℕ) (f : Fin 128 → ℝ), (∀ l, 0 ≤ f l) → ∀ l, 0 ≤ twice k f l := fun k f hf l => add_nonneg (hf l) (hf _)
  exact ht 8 _ (ht 4 _ (ht 2 _ (ht 1 _ hf))) l

end Cert.Voxel

end
-- ==== Proof.Common.lean ====
/- Facts used by both programs' readings: the printed literals as real numbers, sums of embedded reals, and the lane
   rotation read at an index. -/
module

public import proofs.«01_k».proof.Proof.RealMath
public import Idealize.ShloMosaic.Lib.Pointwise

@[expose] public section

noncomputable section

namespace Cert.Voxel

open Idealize.ShloMosaic

/-! ## Literals -/

theorem lit_eps : Ideal.ofBits .f32 0x3727C5AC#32 = ((eps : ℝ) : EReal) := by
  simp [Ideal.ofBits, Ideal.ieee, eps, -EReal.coe_mul, -EReal.coe_add]; norm_num
theorem lit_eps16 : Ideal.ofBits .f32 0x3927C5AC#32 = ((16 * eps : ℝ) : EReal) := by
  simp [Ideal.ofBits, Ideal.ieee, eps, -EReal.coe_mul, -EReal.coe_add]; norm_num
theorem lit_sixteenth : Ideal.ofBits .f32 0x3D800000#32 = ((1 / 16 : ℝ) : EReal) := by
  simp [Ideal.ofBits, Ideal.ieee, -EReal.coe_mul, -EReal.coe_add]; norm_num
theorem lit_sixteen : Ideal.ofBits .f32 0x41800000#32 = ((16 : ℝ) : EReal) := by
  simp [Ideal.ofBits, Ideal.ieee, -EReal.coe_mul, -EReal.coe_add]; norm_num
theorem lit_four : Ideal.ofBits .f32 0x40800000#32 = ((4 : ℝ) : EReal) := by
  simp [Ideal.ofBits, Ideal.ieee, -EReal.coe_mul, -EReal.coe_add]; norm_num
theorem lit_one : Ideal.ofBits .f32 0x3F800000#32 = ((1 : ℝ) : EReal) := by
  simp [Ideal.ofBits, Ideal.ieee, -EReal.coe_mul, -EReal.coe_add]; norm_num
theorem lit_zero : Ideal.ofBits .f32 0x00000000#32 = ((0 : ℝ) : EReal) := by
  simp [Ideal.ofBits, Ideal.ieee]
theorem lit_inf : Ideal.ofBits .f32 0x7F800000#32 = (⊤ : EReal) := by
  simp [Ideal.ofBits, Ideal.ieee]

/-! ## Embedded reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem coe_abs (a : ℝ) : max (a : EReal) (-(a : EReal)) = ((|a| : ℝ) : EReal) := by
  rw [← EReal.coe_neg, coe_max]; rfl

/-- The reciprocal root of a positive real. -/
theorem rsqrt_pos {r : ℝ} (h : 0 < r) : Ideal.rsqrt (r : EReal) = (((Real.sqrt r)⁻¹ : ℝ) : EReal) := by
  rw [Ideal.rsqrt_coe, if_neg h.le.not_gt, if_neg h.ne']

/-! ## Rotations -/

/-- A block with its lanes rotated added to itself, on a row of reals. -/
theorem addf_rotate {R : ℕ} (k : BitVec 32) {x : FVec Ideal (⟨2, ![R, 128]⟩ : Shape) .f32}
    (h : (⟨2, ![R, 128]⟩ : Shape).Rotates 1 none) {r : Fin R} {f : Fin 128 → ℝ} (hx : ∀ l, x (ix2 r l) = ((f l : ℝ) : EReal))
    (l : Fin 128) : addf x (dynamicRotate 1 k none x h) (ix2 r l) = ((twice k.toNat f l : ℝ) : EReal) := by
  unfold twice
  rw [EReal.coe_add, ← hx, ← hx]
  refine congrArg (x (ix2 r l) + x ·) (funext fun b => Fin.ext ?_)
  fin_cases b
  · rfl
  · rfl

end Cert.Voxel

end
-- ==== Proof.Body.lean ====
/- The kernel's body, read one row at a time: on a block whose row `r` holds finite reals, with finite weights, the block
   it stores holds at row `r` the real computation `lanesOut` plus the last offset. -/
module

public import proofs.«01_k».proof.Proof.Common
public import proofs.«01_k».proof.Proof.Gen.KernelIdeal.Skeleton

@[expose] public section

set_option maxRecDepth 16384

noncomputable section

namespace Cert.KernelIdeal.Body

open Idealize.ShloMosaic Cert.KernelIdeal Cert.KernelIdeal.Gen Cert.Voxel

variable {x0 : Vec Ideal S3200x128 .f32} {x2 : Vec Ideal S128x640 .bf16} {x3 : Vec Ideal S128x512 .bf16}
  {x4 : Vec Ideal S512x128 .f32} {x5 : Vec Ideal S1x128 .f32}
variable {x : Fin 128 → ℝ} {wa : Fin 128 → Fin 640 → ℝ} {be : Fin 128 → Fin 512 → ℝ} {wp : Fin 512 → Fin 128 → ℝ} {ig : Fin 128 → ℝ}
variable {r : Fin 3200}

/-- The first product's row. -/
theorem pay2_apply (hx : ∀ l, x0 (ix2 r l) = ((x l : ℝ) : EReal)) (hw : ∀ l q, x2 (ix2 l q) = ((wa l q : ℝ) : EReal)) (q : Fin 640) :
    k0_pay2 x0 x2 (ix2 r q) = ((prod1 x wa q : ℝ) : EReal) := by
  pointwise [k0_pay2, k0_pay1]
  unfold prod1
  rw [coe_sum]
  exact Finset.sum_congr rfl fun l _ => by rw [hx, hw, EReal.coe_mul]

/-- The channel lanes of the first product. -/
theorem pay3_apply (hx : ∀ l, x0 (ix2 r l) = ((x l : ℝ) : EReal)) (hw : ∀ l q, x2 (ix2 l q) = ((wa l q : ℝ) : EReal)) (q : Fin 512) :
    k0_pay3 x0 x2 (ix2 r q) = ((prod1 x wa (headCol q) : ℝ) : EReal) := by
  rw [← pay2_apply hx hw]
  pointwise [k0_pay3]
  rfl

/-- The row's scales. -/
theorem pay4_apply (hx : ∀ l, x0 (ix2 r l) = ((x l : ℝ) : EReal)) (hw : ∀ l q, x2 (ix2 l q) = ((wa l q : ℝ) : EReal)) (l : Fin 128) :
    k0_pay4 x0 x2 (ix2 r l) = ((scale x wa l : ℝ) : EReal) := by
  have h8 : ∀ l, mulf (k0_pay1 x0) (extractStridedSlice S3200x128 ![0, 512] (k0_pay2 x0 x2) slices_S3200x640_o0_512_S3200x128) (ix2 r l)
      = ((x l * prod1 x wa (tailCol l) : ℝ) : EReal) := by
    intro l
    rw [EReal.coe_mul, ← pay2_apply hx hw, ← hx]
    pointwise [k0_pay1]
    rfl
  have h12 := addf_rotate 2#32 rotates_S3200x128_d1 (addf_rotate 1#32 rotates_S3200x128_d1 h8)
  unfold k0_pay4
  refine (congrArg (fun z : EReal => Ideal.rsqrt (max z (-z) + Ideal.ofBits .f32 0x3927C5AC#32)) (h12 l)).trans ?_
  rw [coe_abs, lit_eps16, ← EReal.coe_add, rsqrt_pos (add_pos_of_nonneg_of_pos (abs_nonneg _) (mul_pos (by norm_num) eps_pos))]
  rfl

/-- The point number of each lane. -/
theorem pay5_apply (l : Fin 128) : k0_pay5 (ix2 0 l) = BitVec.ofNat 32 (lanePt l).val := by
  pointwise [k0_pay5, lanePt]
  revert l
  decide

/-- Which lanes of a row are live, from the row's number of points. -/
def live (n : BitVec 32) (p : Fin 32) : Bool := (BitVec.ofNat 32 p.val).slt n

/-- The pooled row, from the channel lanes, the scales and the number of points. -/
def poolBlock (v6 : FVec Ideal S3200x512 .f32) (v16 : FVec Ideal S3200x128 .f32) (v41 : IVec S1x128 32) (v42 : Vec Ideal S3200x1 .i32)
    (v50 : Vec Ideal S128x512 .bf16) (v56 : Vec Ideal S512x128 .f32) : FVec Ideal S3200x128 .f32 :=
  matmul dot_S3200x512_S512x128_S3200x128_1_0_0_1_n_n none
    (mulf (maximumf v6 (broadcast S3200x512 (Scalar.ofBits .f32 0x00000000#32)))
      (matmul dot_S3200x128_S128x512_S3200x512_1_0_0_1_n_n none
        (truncf .bf16 (select (cmpi .slt (broadcastTo S3200x128 v41 broadcasts_S1x128_S3200x128)
          (broadcastTo S3200x128 (shapeCast S3200x1 v42 shapeCasts_S3200x1_S3200x1) broadcasts_S3200x1_S3200x128)) v16
          (broadcast S3200x128 (Scalar.ofBits .f32 0x00000000#32))) bitsLt_bf16_f32)
        (shapeCast S128x512 v50 shapeCasts_S128x512_S128x512 : FVec Ideal S128x512 .bf16) (constant S3200x512 .f32 0x00000000#32)))
    (shapeCast S512x128 v56 shapeCasts_S512x128_S512x128 : FVec Ideal S512x128 .f32) (constant S3200x128 .f32 0x00000000#32)

variable {x1 : Vec Ideal S3200x1 .i32}

theorem poolBlock_apply (hx : ∀ l, x0 (ix2 r l) = ((x l : ℝ) : EReal)) (hw : ∀ l q, x2 (ix2 l q) = ((wa l q : ℝ) : EReal))
    (hb : ∀ l q, x3 (ix2 l q) = ((be l q : ℝ) : EReal)) (hp : ∀ q l, x4 (ix2 q l) = ((wp q l : ℝ) : EReal)) (l : Fin 128) :
    poolBlock (k0_pay3 x0 x2) (k0_pay4 x0 x2) k0_pay5 x1 x3 x4 (ix2 r l)
      = ((poolLane x wa (live (x1 (ix2 r 0))) be wp l : ℝ) : EReal) := by
  have h3 := fun q => pay3_apply hx hw q
  have h4 := fun l => pay4_apply hx hw l
  generalize k0_pay3 x0 x2 = v6 at h3 ⊢
  generalize k0_pay4 x0 x2 = v16 at h4 ⊢
  have h5 := pay5_apply
  generalize k0_pay5 = v41 at h5 ⊢
  pointwise [poolBlock]
  unfold poolLane
  rw [coe_sum]
  refine Finset.sum_congr rfl fun q _ => ?_
  have e : ∀ l', Scalar.select (IntOp.cmpi .slt (v41 (ix2 0 l')) (x1 (ix2 r 0))) (v16 (ix2 r l') * x3 (ix2 l' q)) 0
      = (((if live (x1 (ix2 r 0)) (lanePt l') then scale x wa l' else 0) * be l' q : ℝ) : EReal) := by
    intro l'
    rw [h5, h4, hb, ← EReal.coe_mul]
    unfold live Scalar.select IntOp.cmpi
    cases (BitVec.ofNat 32 (lanePt l').val).slt (x1 (ix2 r 0))
    · simp
    · simp
  rw [Finset.sum_congr rfl fun l' _ => e l', ← coe_sum, h3, hp, EReal.coe_mul, EReal.coe_mul, ← coe_max]
  rfl

/-- Every lane with the fifteen before it added, as the body rotates them. -/
def rollBlock (x : FVec Ideal S3200x128 .f32) : FVec Ideal S3200x128 .f32 :=
  have a : FVec Ideal S3200x128 .f32 := addf x (dynamicRotate 1 1#32 none x rotates_S3200x128_d1)
  have b : FVec Ideal S3200x128 .f32 := addf a (dynamicRotate 1 2#32 none a rotates_S3200x128_d1)
  have d : FVec Ideal S3200x128 .f32 := addf b (dynamicRotate 1 4#32 none b rotates_S3200x128_d1)
  addf d (dynamicRotate 1 8#32 none d rotates_S3200x128_d1)

theorem rollBlock_apply {y : FVec Ideal S3200x128 .f32} {f : Fin 128 → ℝ} (hy : ∀ l, y (ix2 r l) = ((f l : ℝ) : EReal)) (l : Fin 128) :
    rollBlock y (ix2 r l) = ((twice16 f l : ℝ) : EReal) :=
  addf_rotate 8#32 rotates_S3200x128_d1 (addf_rotate 4#32 rotates_S3200x128_d1
    (addf_rotate 2#32 rotates_S3200x128_d1 (addf_rotate 1#32 rotates_S3200x128_d1 hy))) l

/-- The stored block, from the pooled block. -/
def storeBlock (P : FVec Ideal S3200x128 .f32) (v60 v78 : Vec Ideal S1x128 .f32) : FVec Ideal S3200x16 .f32 :=
  extractStridedSlice S3200x16 ![0, 0]
    (addf (mulf P (rsqrt (addf (mulf (rollBlock (mulf (mulf P P)
        (broadcastTo S3200x128 (shapeCast S1x128 v60 shapeCasts_S1x128_S1x128) broadcasts_S1x128_S3200x128)))
        (broadcast S3200x128 (Scalar.ofBits .f32 0x3D800000#32))) (broadcast S3200x128 (Scalar.ofBits .f32 0x3727C5AC#32)))))
      (broadcastTo S3200x128 (shapeCast S1x128 v78 shapeCasts_S1x128_S1x128) broadcasts_S1x128_S3200x128))
    slices_S3200x128_o0_0_S3200x16

theorem pay6_eq (v6 : FVec Ideal S3200x512 .f32) (v16 : FVec Ideal S3200x128 .f32) (v41 : IVec S1x128 32) (v42 : Vec Ideal S3200x1 .i32)
    (v50 : Vec Ideal S128x512 .bf16) (v56 : Vec Ideal S512x128 .f32) (v60 v78 : Vec Ideal S1x128 .f32) :
    k0_pay6 v6 v16 v41 v42 v50 v56 v60 v78 = storeBlock (poolBlock v6 v16 v41 v42 v50 v56) v60 v78 := rfl

theorem storeBlock_apply {P : FVec Ideal S3200x128 .f32} {v60 v78 : Vec Ideal S1x128 .f32} {pc : Fin 128 → ℝ}
    (hpc : ∀ l, P (ix2 r l) = ((pc l : ℝ) : EReal)) (hi : ∀ l, v60 (ix2 0 l) = ((ig l : ℝ) : EReal)) (hi0 : ∀ l, 0 ≤ ig l) (o : Fin 16) :
    storeBlock P v60 v78 (ix2 r o) = ((finish pc ig (outLane o) : ℝ) : EReal) + v78 (ix2 0 (outLane o)) := by
  have h63 : ∀ l, mulf (mulf P P) (broadcastTo S3200x128 (shapeCast S1x128 v60 shapeCasts_S1x128_S1x128) broadcasts_S1x128_S3200x128) (ix2 r l)
      = ((pc l * pc l * ig l : ℝ) : EReal) := by
    intro l
    rw [EReal.coe_mul, EReal.coe_mul, ← hpc, ← hi]
    pointwise
  have h71 := rollBlock_apply h63
  unfold storeBlock
  generalize rollBlock (mulf (mulf P P) (broadcastTo S3200x128 (shapeCast S1x128 v60 shapeCasts_S1x128_S1x128) broadcasts_S1x128_S3200x128)) = T at h71 ⊢
  pointwise
  have h71' := h71 (outLane o)
  have hpc' := hpc (outLane o)
  have h0 : 0 ≤ twice16 (fun l => pc l * pc l * ig l) (outLane o) :=
    twice16_nonneg _ (fun l => mul_nonneg (mul_self_nonneg _) (hi0 l)) _
  refine congrArg (· + v78 (ix2 0 (outLane o))) ?_
  refine (congrArg₂ (fun a b : EReal => a * Ideal.rsqrt (b * Ideal.ofBits .f32 0x3D800000#32 + Ideal.ofBits .f32 0x3727C5AC#32)) hpc' h71').trans ?_
  rw [lit_sixteenth, lit_eps, ← EReal.coe_mul, ← EReal.coe_add, rsqrt_pos (add_pos_of_nonneg_of_pos (mul_nonneg h0 (by norm_num)) eps_pos),
    ← EReal.coe_mul]
  rfl

variable {x6 : Vec Ideal S1x128 .f32}

/-- The block the body stores, at row `r`. -/
theorem stored_apply (hx : ∀ l, x0 (ix2 r l) = ((x l : ℝ) : EReal)) (hw : ∀ l q, x2 (ix2 l q) = ((wa l q : ℝ) : EReal))
    (hb : ∀ l q, x3 (ix2 l q) = ((be l q : ℝ) : EReal)) (hp : ∀ q l, x4 (ix2 q l) = ((wp q l : ℝ) : EReal))
    (hi : ∀ l, x5 (ix2 0 l) = ((ig l : ℝ) : EReal)) (hi0 : ∀ l, 0 ≤ ig l) (o : Fin 16) :
    k0_pay6 (k0_pay3 x0 x2) (k0_pay4 x0 x2) k0_pay5 x1 x3 x4 x5 x6 (ix2 r o)
      = ((lanesOut x wa (live (x1 (ix2 r 0))) be wp ig (outLane o) : ℝ) : EReal) + x6 (ix2 0 (outLane o)) := by
  rw [pay6_eq]
  exact storeBlock_apply (fun l => poolBlock_apply hx hw hb hp l) hi hi0 o

end Cert.KernelIdeal.Body

end
-- ==== Proof.Prepare.lean ====
/- The arrays the host prepares for the kernel from the weights: each as a term over the weights, and read at an index as
   a real number when the weights are finite. -/
module

public import proofs.«01_k».proof.Proof.Common
public import Idealize.ShloMosaic.Lib.Routing.OpsPair
public import Idealize.ShloMosaic.Lib.Routing.OpsSet
public import proofs.«01_k».proof.Proof.Gen.KernelIdeal

@[expose] public section

set_option maxRecDepth 16384

noncomputable section

namespace Cert.KernelIdeal.Prepare

open Idealize.ShloMosaic Cert.KernelIdeal Cert.KernelIdeal.Gen Cert.Voxel

/-! ## The terms -/

/-- The 16 by 16 identity. -/
def eye16 : FVec Ideal S16x16 .f32 :=
  uitofp .f32 (cmpi .eq (addi (iotaInDim S16x16 32 0) (broadcastInDim S16x16 ![] bcast_S_S16x16 (constantI S_ 32 0#32))) (iotaInDim S16x16 32 1))
/-- The 32 by 32 identity. -/
def eye32 : FVec Ideal S32x32 .f32 :=
  uitofp .f32 (cmpi .eq (addi (iotaInDim S32x32 32 0) (broadcastInDim S32x32 ![] bcast_S_S32x32 (constantI S_ 32 0#32))) (iotaInDim S32x32 32 1))
/-- The matrix that takes out the mean of 16 channels. -/
def centre : FVec Ideal S16x16 .f32 := subf eye16 (broadcastInDim S16x16 ![] bcast_S_S16x16 (constant S_ .f32 0x3D800000#32))

/-- The first layer's weights with their means taken out. -/
def w1c (W1 : FVec Ideal S4x16 .f32) : FVec Ideal S4x16 .f32 := Host.dotGeneral dot_S4x16_S16x16_S4x16_1_0_0_1_n_n none W1 centre
/-- Their Gram matrix. -/
def gramW (W1 : FVec Ideal S4x16 .f32) : FVec Ideal S4x4 .f32 :=
  Host.dotGeneral dot_S4x16_S16x4_S4x4_1_0_0_1_n_n none (w1c W1) (transpose S16x4 [1, 0] (w1c W1) transposes_S4x16_S16x4_1_0)

/-- The weights repeated for every point. -/
def headW (w : FVec Ideal S4x16 .f32) : FVec Ideal S128x512 .f32 :=
  shapeCast S128x512 (mulf
    (broadcastInDim S32x4x32x16 ![0, 1, 2, 3] bcast_S32x1x32x1_S32x4x32x16_0_1_2_3 (broadcastInDim S32x1x32x1 ![0, 2] bcast_S32x32_S32x1x32x1_0_2 eye32))
    (broadcastInDim S32x4x32x16 ![0, 1, 2, 3] bcast_S1x4x1x16_S32x4x32x16_0_1_2_3 (broadcastInDim S1x4x1x16 ![1, 3] bcast_S4x16_S1x4x1x16_1_3 w)))
    shapeCasts_S32x4x32x16_S128x512
/-- The Gram matrix repeated for every point. -/
def tailW (w : FVec Ideal S4x4 .f32) : FVec Ideal S128x128 .f32 :=
  shapeCast S128x128 (mulf
    (broadcastInDim S32x4x32x4 ![0, 1, 2, 3] bcast_S32x1x32x1_S32x4x32x4_0_1_2_3 (broadcastInDim S32x1x32x1 ![0, 2] bcast_S32x32_S32x1x32x1_0_2 eye32))
    (broadcastInDim S32x4x32x4 ![0, 1, 2, 3] bcast_S1x4x1x4_S32x4x32x4_0_1_2_3 (broadcastInDim S1x4x1x4 ![1, 3] bcast_S4x4_S1x4x1x4_1_3 w)))
    shapeCasts_S32x4x32x4_S128x128
/-- The widened weights. -/
def wide (W1 : FVec Ideal S4x16 .f32) : FVec Ideal S128x640 .bf16 :=
  truncf .bf16 (concatenate S128x640 1 [⟨S128x512, headW (w1c W1)⟩, ⟨S128x128, tailW (gramW W1)⟩] concatenates_S128x512_S128x128_S128x640_d1) bitsLt_bf16_f32

/-- One at the last of four coordinates. -/
def last : FVec Ideal S4x1 .f32 :=
  Host.scatter scatter_S4x1_S2_S__n_01_01_0 (fun _ b => b) (broadcastInDim S4x1 ![] bcast_S_S4x1 (constant S_ .f32 0x00000000#32))
    (concatenate S2 0 [⟨S1, broadcastInDim S1 ![] bcast_S_S1 (constantI S_ 32 3#32)⟩, ⟨S1, broadcastInDim S1 ![] bcast_S_S1 (constantI S_ 32 0#32)⟩]
      concatenates_S1_S1_S2_d0) (constant S_ .f32 0x3F800000#32)
/-- One at every point's last lane. -/
def lastW (w : FVec Ideal S4x1 .f32) : FVec Ideal S128x32 .f32 :=
  shapeCast S128x32 (mulf
    (broadcastInDim S32x4x32x1 ![0, 1, 2, 3] bcast_S32x1x32x1_S32x4x32x1_0_1_2_3 (broadcastInDim S32x1x32x1 ![0, 2] bcast_S32x32_S32x1x32x1_0_2 eye32))
    (broadcastInDim S32x4x32x1 ![0, 1, 2, 3] bcast_S1x4x1x1_S32x4x32x1_0_1_2_3 (broadcastInDim S1x4x1x1 ![1, 3] bcast_S4x1_S1x4x1x1_1_3 w)))
    shapeCasts_S32x4x32x1_S128x32
/-- Four times the first scale. -/
def g4 (g1 : FVec Ideal S16 .f32) : FVec Ideal S1x16 .f32 :=
  shapeCast S1x16 (mulf (broadcastInDim S16 ![] bcast_S_S16 (constant S_ .f32 0x40800000#32)) g1) shapeCasts_S16_S1x16
/-- The scale repeated for every point. -/
def g4W (w : FVec Ideal S1x16 .f32) : FVec Ideal S32x512 .f32 :=
  shapeCast S32x512 (mulf
    (broadcastInDim S32x1x32x16 ![0, 1, 2, 3] bcast_S32x1x32x1_S32x1x32x16_0_1_2_3 (broadcastInDim S32x1x32x1 ![0, 2] bcast_S32x32_S32x1x32x1_0_2 eye32))
    (broadcastInDim S32x1x32x16 ![0, 1, 2, 3] bcast_S1x1x1x16_S32x1x32x16_0_1_2_3 (broadcastInDim S1x1x1x16 ![1, 3] bcast_S1x16_S1x1x1x16_1_3 w)))
    shapeCasts_S32x1x32x16_S32x512
/-- The matrix that spreads the scales over the channel lanes. -/
def spreadW (g1 : FVec Ideal S16 .f32) : FVec Ideal S128x512 .bf16 :=
  truncf .bf16 (Host.reduceAdd (mulf
    (broadcastInDim S128x32x512 ![0, 1, 2] bcast_S128x32x1_S128x32x512_0_1_2 (broadcastInDim S128x32x1 ![0, 1] bcast_S128x32_S128x32x1_0_1 (lastW last)))
    (broadcastInDim S128x32x512 ![0, 1, 2] bcast_S1x32x512_S128x32x512_0_1_2 (broadcastInDim S1x32x512 ![1, 2] bcast_S32x512_S1x32x512_1_2 (g4W (g4 g1)))))
    (constant S_ .f32 0x00000000#32) reducesTo_S128x32x512_S128x512_d1 h_S_) bitsLt_bf16_f32

/-- The second layer's weights with their means taken out and the second scale multiplied in. -/
def w2g (W2 : FVec Ideal S16x16 .f32) (g2 : FVec Ideal S16 .f32) : FVec Ideal S16x16 .f32 :=
  mulf (Host.dotGeneral dot_S16x16_S16x16_S16x16_1_0_0_1_n_n none W2 centre)
    (broadcastInDim S16x16 ![0, 1] bcast_S1x16_S16x16_0_1 (shapeCast S1x16 g2 shapeCasts_S16_S1x16))
/-- The pooling matrix. -/
def poolW (w : FVec Ideal S16x16 .f32) : FVec Ideal S512x128 .f32 :=
  shapeCast S512x128 (mulf
    (broadcastInDim S32x16x8x16 ![0, 1, 2, 3] bcast_S32x1x8x1_S32x16x8x16_0_1_2_3 (broadcastInDim S32x1x8x1 ![0, 2] bcast_S32x8_S32x1x8x1_0_2
      (broadcastInDim S32x8 ![] bcast_S_S32x8 (constant S_ .f32 0x3F800000#32))))
    (broadcastInDim S32x16x8x16 ![0, 1, 2, 3] bcast_S1x16x1x16_S32x16x8x16_0_1_2_3 (broadcastInDim S1x16x1x16 ![1, 3] bcast_S16x16_S1x16x1x16_1_3 w)))
    shapeCasts_S32x16x8x16_S512x128
/-- A vector over the channels repeated over the lanes. -/
def tile (v : FVec Ideal S16 .f32) : FVec Ideal S1x128 .f32 :=
  shapeCast S1x128 (shapeCast S128 (broadcastInDim S8x16 ![0, 1] bcast_S1x16_S8x16_0_1 (shapeCast S1x16 v shapeCasts_S16_S1x16))
    shapeCasts_S8x16_S128) shapeCasts_S128_S1x128
/-- The reciprocal squares of the second scale. -/
def invSq (g2 : FVec Ideal S16 .f32) : FVec Ideal S16 .f32 :=
  Host.divf (broadcastInDim S16 ![] bcast_S_S16 (constant S_ .f32 0x3F800000#32)) (mulf g2 g2)

/-! ## At an index -/

theorem eq_bit {n : ℕ} (hn : n ≤ 2 ^ 32) (i j : Fin n) :
    (((IntOp.cmpi .eq (IntOp.addi (BitVec.ofNat 32 i.val) 0#32) (BitVec.ofNat 32 j.val)).toNat : ℝ) : EReal)
      = (((if i = j then 1 else 0 : ℝ)) : EReal) := by
  have h : (IntOp.addi (BitVec.ofNat 32 i.val) 0#32 == BitVec.ofNat 32 j.val) = decide (i = j) := by
    rw [show IntOp.addi (BitVec.ofNat 32 i.val) 0#32 = BitVec.ofNat 32 i.val from BitVec.add_zero _, Bool.eq_iff_iff, beq_iff_eq,
      decide_eq_true_iff]
    refine ⟨fun h => Fin.ext ?_, fun h => by rw [h]⟩
    have h' := congrArg BitVec.toNat h
    rwa [BitVec.toNat_ofNat, BitVec.toNat_ofNat, Nat.mod_eq_of_lt (i.isLt.trans_le hn), Nat.mod_eq_of_lt (j.isLt.trans_le hn)] at h'
  unfold IntOp.cmpi
  dsimp only
  rw [h]
  by_cases e : i = j <;> simp [e]

theorem eye16_apply (i j : Fin 16) : eye16 (ix2 i j) = (((if i = j then 1 else 0 : ℝ)) : EReal) := by
  rw [← eq_bit (by norm_num)]
  pointwise [eye16]
  rfl

theorem eye32_apply (i j : Fin 32) : eye32 (ix2 i j) = (((if i = j then 1 else 0 : ℝ)) : EReal) := by
  rw [← eq_bit (by norm_num)]
  pointwise [eye32]
  rfl

theorem centre_apply (i j : Fin 16) : centre (ix2 i j) = (((if i = j then 1 else 0) - 1 / 16 : ℝ) : EReal) := by
  rw [EReal.coe_sub, ← eye16_apply, ← lit_sixteenth]
  pointwise [centre]

theorem w1c_apply {A : FVec Ideal S4x16 .f32} {W1 : Fin 4 → Fin 16 → ℝ} (hA : ∀ k h, A (ix2 k h) = ((W1 k h : ℝ) : EReal))
    (k : Fin 4) (h : Fin 16) : w1c A (ix2 k h) = ((centred W1 k h : ℝ) : EReal) := by
  have hc := centre_apply
  pointwise [w1c]
  unfold centred
  rw [coe_sum]
  exact Finset.sum_congr rfl fun j _ => by rw [hA, hc, EReal.coe_mul]

theorem gramW_apply {A : FVec Ideal S4x16 .f32} {W1 : Fin 4 → Fin 16 → ℝ} (hA : ∀ k h, A (ix2 k h) = ((W1 k h : ℝ) : EReal))
    (i j : Fin 4) : gramW A (ix2 i j) = ((gram W1 i j : ℝ) : EReal) := by
  have hc := w1c_apply hA
  pointwise [gramW]
  unfold gram
  rw [coe_sum]
  exact Finset.sum_congr rfl fun j _ => by rw [hc, hc, EReal.coe_mul]

theorem headW_apply (w : FVec Ideal S4x16 .f32) (l : Fin 128) (q : Fin 512) :
    headW w (ix2 l q) = eye32 (ix2 (lanePt l) (chanPt q)) * w (ix2 (laneCo l) (chanCh q)) := by
  pointwise [headW]
  rfl

theorem tailW_apply (w : FVec Ideal S4x4 .f32) (l : Fin 128) (q : Fin 128) :
    tailW w (ix2 l q) = eye32 (ix2 (lanePt l) (lanePt q)) * w (ix2 (laneCo l) (laneCo q)) := by
  pointwise [tailW]
  rfl

theorem last_apply (k : Fin 4) : last (ix2 k 0) = (((if k = 3 then 1 else 0 : ℝ)) : EReal) := by
  unfold last
  by_cases h : k = 3
  · subst h
    rw [if_pos rfl, ← lit_one]
    refine Idealize.ShloMosaic.Routing.scatter_set_hit _ _ _ _ _ _ (fun _ _ => rfl) (fun a => a.elim0) ?_
    refine (Idealize.ShloMosaic.Routing.resultIdx?_eq_some _ _ _ _).2 fun a => ?_
    match a with
    | ⟨0, _⟩ => rfl
    | ⟨1, _⟩ => rfl
  · rw [if_neg h, ← lit_zero]
    refine (Idealize.ShloMosaic.Routing.scatter_set_miss _ _ _ _ _ fun j hj => h (Fin.ext ?_)).trans rfl
    have := (Idealize.ShloMosaic.Routing.resultIdx?_eq_some _ _ _ _).1 hj 0
    have e : (3 : Int) = (k.val : Int) := this
    have : k.val = 3 := by omega
    exact this

theorem lastW_apply (w : FVec Ideal S4x1 .f32) (l : Fin 128) (p : Fin 32) :
    lastW w (ix2 l p) = eye32 (ix2 (lanePt l) p) * w (ix2 (laneCo l) 0) := by
  pointwise [lastW]
  rfl

theorem g4W_apply (w : FVec Ideal S1x16 .f32) (p : Fin 32) (q : Fin 512) :
    g4W w (ix2 p q) = eye32 (ix2 p (chanPt q)) * w (ix2 0 (chanCh q)) := by
  pointwise [g4W]
  rfl

theorem poolW_apply (w : FVec Ideal S16x16 .f32) (q : Fin 512) (l : Fin 128) :
    poolW w (ix2 q l) = w (ix2 (chanCh q) (outCh l)) := by
  pointwise [poolW]
  rfl

theorem tile_apply (v : FVec Ideal S16 .f32) (l : Fin 128) : tile v (ix2 0 l) = v (ix1 (outCh l)) := by
  pointwise [tile]
  rfl

/-! ## The arrays as real numbers -/

theorem wide_head {A : FVec Ideal S4x16 .f32} {W1 : Fin 4 → Fin 16 → ℝ} (hA : ∀ k h, A (ix2 k h) = ((W1 k h : ℝ) : EReal))
    (l : Fin 128) (q : Fin 512) :
    wide A (ix2 l (headCol q)) = (((if lanePt l = chanPt q then 1 else 0) * centred W1 (laneCo l) (chanCh q) : ℝ) : EReal) := by
  rw [EReal.coe_mul, ← eye32_apply, ← w1c_apply hA, ← headW_apply]
  pointwise [wide, headCol]

theorem wide_tail {A : FVec Ideal S4x16 .f32} {W1 : Fin 4 → Fin 16 → ℝ} (hA : ∀ k h, A (ix2 k h) = ((W1 k h : ℝ) : EReal))
    (l l' : Fin 128) :
    wide A (ix2 l (tailCol l')) = (((if lanePt l = lanePt l' then 1 else 0) * gram W1 (laneCo l) (laneCo l') : ℝ) : EReal) := by
  rw [EReal.coe_mul, ← eye32_apply, ← gramW_apply hA, ← tailW_apply]
  pointwise [wide, tailCol]

/-- The widened weights as real numbers. -/
def wideR (W1 : Fin 4 → Fin 16 → ℝ) (l : Fin 128) (q : Fin 640) : ℝ :=
  if h : q.val < 512 then (if lanePt l = chanPt ⟨q.val, h⟩ then 1 else 0) * centred W1 (laneCo l) (chanCh ⟨q.val, h⟩)
  else (if lanePt l = lanePt ⟨q.val - 512, by omega⟩ then 1 else 0) * gram W1 (laneCo l) (laneCo ⟨q.val - 512, by omega⟩)

theorem wideR_head (W1 : Fin 4 → Fin 16 → ℝ) (l : Fin 128) (q : Fin 512) :
    wideR W1 l (headCol q) = (if lanePt l = chanPt q then 1 else 0) * centred W1 (laneCo l) (chanCh q) := dif_pos q.isLt

theorem wideR_tail (W1 : Fin 4 → Fin 16 → ℝ) (l l' : Fin 128) :
    wideR W1 l (tailCol l') = (if lanePt l = lanePt l' then 1 else 0) * gram W1 (laneCo l) (laneCo l') := by
  have e : (⟨(tailCol l').val - 512, by have := l'.isLt; simp only [tailCol]; omega⟩ : Fin 128) = l' :=
    Fin.ext (Nat.add_sub_cancel_left 512 l'.val)
  rw [wideR, dif_neg (by simp only [tailCol]; omega), e]

theorem wide_apply {A : FVec Ideal S4x16 .f32} {W1 : Fin 4 → Fin 16 → ℝ} (hA : ∀ k h, A (ix2 k h) = ((W1 k h : ℝ) : EReal))
    (l : Fin 128) (q : Fin 640) : wide A (ix2 l q) = ((wideR W1 l q : ℝ) : EReal) := by
  by_cases h : q.val < 512
  · have e : q = headCol ⟨q.val, h⟩ := rfl
    rw [e, wideR_head, wide_head hA]
  · have e : q = tailCol ⟨q.val - 512, by omega⟩ := Fin.ext (by simp only [tailCol]; omega)
    rw [e, wideR_tail, wide_tail hA]

/-- The spreading matrix as real numbers. -/
def spreadR (g1 : Fin 16 → ℝ) (l : Fin 128) (q : Fin 512) : ℝ :=
  if laneCo l = 3 ∧ lanePt l = chanPt q then 4 * g1 (chanCh q) else 0

theorem g4_apply {G : FVec Ideal S16 .f32} {g1 : Fin 16 → ℝ} (hG : ∀ h, G (ix1 h) = ((g1 h : ℝ) : EReal)) (h : Fin 16) :
    g4 G (ix2 0 h) = ((4 * g1 h : ℝ) : EReal) := by
  rw [EReal.coe_mul, ← hG, ← lit_four]
  pointwise [g4]

theorem spreadW_apply {G : FVec Ideal S16 .f32} {g1 : Fin 16 → ℝ} (hG : ∀ h, G (ix1 h) = ((g1 h : ℝ) : EReal)) (l : Fin 128) (q : Fin 512) :
    spreadW G (ix2 l q) = ((spreadR g1 l q : ℝ) : EReal) := by
  have e : spreadR g1 l q = ∑ p : Fin 32, ((if lanePt l = p then 1 else 0) * (if laneCo l = 3 then 1 else 0))
      * ((if p = chanPt q then 1 else 0) * (4 * g1 (chanCh q))) := by
    rw [Finset.sum_eq_single (lanePt l) (fun p _ hp => by rw [if_neg (Ne.symm hp)]; ring) (fun h => absurd (Finset.mem_univ _) h)]
    unfold spreadR
    by_cases h1 : laneCo l = 3 <;> by_cases h2 : lanePt l = chanPt q <;> simp [h1, h2]
  rw [e, coe_sum]
  have hl := lastW_apply last
  have hg := g4W_apply (g4 G)
  pointwise [spreadW]
  refine Finset.sum_congr rfl fun p _ => ?_
  rw [hl, hg, eye32_apply, eye32_apply, last_apply, g4_apply hG]
  simp only [EReal.coe_mul]

/-- The pooling matrix as real numbers. -/
def poolR (W2 : Fin 16 → Fin 16 → ℝ) (g2 : Fin 16 → ℝ) (q : Fin 512) (l : Fin 128) : ℝ := centred W2 (chanCh q) (outCh l) * g2 (outCh l)

theorem w2g_apply {A : FVec Ideal S16x16 .f32} {G : FVec Ideal S16 .f32} {W2 : Fin 16 → Fin 16 → ℝ} {g2 : Fin 16 → ℝ}
    (hA : ∀ k h, A (ix2 k h) = ((W2 k h : ℝ) : EReal)) (hG : ∀ h, G (ix1 h) = ((g2 h : ℝ) : EReal)) (k h : Fin 16) :
    w2g A G (ix2 k h) = ((centred W2 k h * g2 h : ℝ) : EReal) := by
  have hc := centre_apply
  rw [EReal.coe_mul, ← hG]
  unfold centred
  rw [coe_sum]
  simp only [EReal.coe_mul, ← hA, ← hc]
  pointwise [w2g]

theorem poolW_real {A : FVec Ideal S16x16 .f32} {G : FVec Ideal S16 .f32} {W2 : Fin 16 → Fin 16 → ℝ} {g2 : Fin 16 → ℝ}
    (hA : ∀ k h, A (ix2 k h) = ((W2 k h : ℝ) : EReal)) (hG : ∀ h, G (ix1 h) = ((g2 h : ℝ) : EReal)) (q : Fin 512) (l : Fin 128) :
    poolW (w2g A G) (ix2 q l) = ((poolR W2 g2 q l : ℝ) : EReal) := by
  rw [poolW_apply, w2g_apply hA hG]; rfl

/-- The reciprocal squares as real numbers. -/
def invR (g2 : Fin 16 → ℝ) (l : Fin 128) : ℝ := 1 / (g2 (outCh l) * g2 (outCh l))

theorem invSq_apply {G : FVec Ideal S16 .f32} {g2 : Fin 16 → ℝ} (hG : ∀ h, G (ix1 h) = ((g2 h : ℝ) : EReal)) (h0 : ∀ h, g2 h ≠ 0)
    (l : Fin 128) : tile (invSq G) (ix2 0 l) = ((invR g2 l : ℝ) : EReal) := by
  rw [tile_apply]
  have e : invSq G (ix1 (outCh l)) = Ideal.div (Ideal.ofBits .f32 0x3F800000#32) (G (ix1 (outCh l)) * G (ix1 (outCh l))) := by
    pointwise [invSq]
  rw [e, hG, lit_one, ← EReal.coe_mul, Ideal.div_coe (mul_self_ne_zero.2 (h0 _)), ← EReal.coe_mul, one_mul]
  rfl

end Cert.KernelIdeal.Prepare

end
-- ==== Proof.HostRead.lean ====
/- The arrays the kernel's windows read, as the host's terms over the arguments. -/
module

public import proofs.«01_k».proof.Proof.Prepare
public import proofs.«01_k».proof.Proof.Gen.KernelIdeal.Value
public import Idealize.ShloMosaic.Lib.StableHlo.RunRead
public import Idealize.ShloMosaic.Lib.Claim

@[expose] public section

set_option maxRecDepth 16384

noncomputable section

namespace Cert.KernelIdeal.HostRead

open Idealize.ShloMosaic Idealize.ShloMosaic.TcCoe Idealize.ShloMosaic.StableHlo Idealize.SL.Sem Cert.KernelIdeal Cert.KernelIdeal.Gen Cert.KernelIdeal.Prepare

set_option maxHeartbeats 2000000

variable (m : (ℓ : Loc nD τ sig) → Buf (Elt Ideal) ℓ) (c : Dev nD)

/-- Argument 0. -/
abbrev arg0 : FVec Ideal S400000x32x4 .f32 := m ((c : Thread nD τ).loc main_arg0)
/-- Argument 1. -/
abbrev arg1 : FVec Ideal S4x16 .f32 := m ((c : Thread nD τ).loc main_arg1)
/-- Argument 3. -/
abbrev arg3 : FVec Ideal S16 .f32 := m ((c : Thread nD τ).loc main_arg3)
/-- Argument 5. -/
abbrev arg5 : FVec Ideal S16x16 .f32 := m ((c : Thread nD τ).loc main_arg5)
/-- Argument 7. -/
abbrev arg7 : FVec Ideal S16 .f32 := m ((c : Thread nD τ).loc main_arg7)
/-- Argument 8. -/
abbrev arg8 : FVec Ideal S16 .f32 := m ((c : Thread nD τ).loc main_arg8)
/-- Argument 9. -/
abbrev arg9 : IVec S400000 32 := m ((c : Thread nD τ).loc main_arg9)

theorem V_rows : V m c main_call0_v0
    = shapeCast S400000x128 (arg0 m c) shapeCasts_S400000x32x4_S400000x128 := by
  unfold_abbrev_sides
  after_reads_simp
  rfl

theorem V_counts : V m c main_call0_v80
    = shapeCast S400000x1 (arg9 m c) shapeCasts_S400000_S400000x1 := by
  unfold_abbrev_sides
  after_reads_simp
  rfl

theorem V_wide : V m c main_call0_v81 = wide (arg1 m c) := by
  unfold_abbrev_sides
  after_reads_simp
  rfl

theorem V_spread : V m c main_call0_v82 = spreadW (arg3 m c) := by
  unfold_abbrev_sides
  after_reads_simp
  rfl

theorem V_pool : V m c main_call0_v68 = poolW (w2g (arg5 m c) (arg7 m c)) := by
  unfold_abbrev_sides
  after_reads_simp
  rfl

theorem V_inv : V m c main_call0_v75 = tile (invSq (arg7 m c)) := by
  unfold_abbrev_sides
  after_reads_simp
  rfl

theorem V_offset : V m c main_call0_v79 = tile (arg8 m c) := by
  unfold_abbrev_sides
  after_reads_simp
  rfl

end Cert.KernelIdeal.HostRead

end
-- ==== Proof.Result.lean ====
/- The kernel's result array after the run, row by row. -/
module

public import proofs.«01_k».proof.Proof.Body
public import proofs.«01_k».proof.Proof.HostRead
public import Idealize.ShloMosaic.Lib.Pipeline.ValueKit

@[expose] public section

set_option maxRecDepth 16384

noncomputable section

namespace Cert.KernelIdeal.Result

open Idealize.ShloMosaic Idealize.ShloMosaic.TcCoe Idealize.SL.Sem Cert.KernelIdeal Cert.KernelIdeal.Gen Cert.KernelIdeal.Prepare
open Cert.KernelIdeal.HostRead Cert.KernelIdeal.Body Cert.Voxel
open Idealize.ShloMosaic.Pipeline (Dat)

variable (m : (ℓ : Loc nD τ sig) → Buf (Elt Ideal) ℓ) (c : Dev nD)

/-! ## The blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)

/-- The voxel of row `r` of block `t`. -/
def vox (t : Fin cfg0.N) (r : Fin 3200) : Fin 400000 := ⟨t.val * 3200 + r.val, by
  have h : t.val < 125 := t.isLt
  omega⟩

theorem blk0 (t : Fin cfg0.N) (r : Fin 3200) (l : Fin 128) : iblk m c 0 t (ix2 r l) = V m c main_call0_v0 (ix2 (vox t r) l) := by
  blk_simp [iblk]
  refine congrArg (V m c main_call0_v0) ?_
  blk_ext [idx0, vox]

theorem blk1 (t : Fin cfg0.N) (r : Fin 3200) : iblk m c 1 t (ix2 r 0) = V m c main_call0_v80 (ix2 (vox t r) 0) := by
  blk_simp [iblk]
  refine congrArg (V m c main_call0_v80) ?_
  blk_ext [idx1, vox]

theorem blk2 (t : Fin cfg0.N) (l : Fin 128) (q : Fin 640) : iblk m c 2 t (ix2 l q) = V m c main_call0_v81 (ix2 l q) := by
  blk_simp [iblk]
  refine congrArg (V m c main_call0_v81) ?_
  blk_ext [idx2]

theorem blk3 (t : Fin cfg0.N) (l : Fin 128) (q : Fin 512) : iblk m c 3 t (ix2 l q) = V m c main_call0_v82 (ix2 l q) := by
  blk_simp [iblk]
  refine congrArg (V m c main_call0_v82) ?_
  blk_ext [idx3]

theorem blk4 (t : Fin cfg0.N) (q : Fin 512) (l : Fin 128) : iblk m c 4 t (ix2 q l) = V m c main_call0_v68 (ix2 q l) := by
  blk_simp [iblk]
  refine congrArg (V m c main_call0_v68) ?_
  blk_ext [idx4]

theorem blk5 (t : Fin cfg0.N) (l : Fin 128) : iblk m c 5 t (ix2 0 l) = V m c main_call0_v75 (ix2 0 l) := by
  blk_simp [iblk]
  refine congrArg (V m c main_call0_v75) ?_
  blk_ext [idx5]

theorem blk6 (t : Fin cfg0.N) (l : Fin 128) : iblk m c 6 t (ix2 0 l) = V m c main_call0_v79 (ix2 0 l) := by
  blk_simp [iblk]
  refine congrArg (V m c main_call0_v79) ?_
  blk_ext [idx6]

/-! ## The result -/

variable {X : Fin 400000 → Fin 32 → Fin 4 → ℝ} {W1 : Fin 4 → Fin 16 → ℝ} {g1 : Fin 16 → ℝ} {W2 : Fin 16 → Fin 16 → ℝ} {g2 : Fin 16 → ℝ}

/-- The kernel's result as the reference's real computation and the last offset. -/
def target (X : Fin 400000 → Fin 32 → Fin 4 → ℝ) (W1 : Fin 4 → Fin 16 → ℝ) (g1 : Fin 16 → ℝ) (W2 : Fin 16 → Fin 16 → ℝ) (g2 : Fin 16 → ℝ)
    (be2 : FVec Ideal S16 .f32) (n : IVec S400000 32) (v : Fin 400000) (o : Fin 16) : EReal :=
  ((refOut (X v) W1 g1 W2 g2 (live (n (ix1 v))) o : ℝ) : EReal) + be2 (ix1 o)

theorem hz2 : (![0, 0] : Fin 2 → ℕ) = fun _ => 0 := by
  funext a; fin_cases a <;> rfl

/-- What the body leaves in the output window's buffer, from the whole blocks. -/
theorem out_eq (x0 : Vec Ideal S3200x128 .f32) (x1 : Vec Ideal S3200x1 .i32) (x2 : Vec Ideal S128x640 .bf16) (x3 : Vec Ideal S128x512 .bf16)
    (x4 : Vec Ideal S512x128 .f32) (x5 x6 : Vec Ideal S1x128 .f32) :
    out0_7 x0 x1 x2 x3 x4 x5 x6 = k0_pay6 (k0_pay3 x0 x2) (k0_pay4 x0 x2) k0_pay5 x1 x3 x4 x5 x6 := by
  unfold out0_7
  have l0 : View.ld x0 r0_0 = x0 := View.ld_unit_zero hz2 _ _
  have l1 : View.ld x2 r0_1 = x2 := View.ld_unit_zero hz2 _ _
  have l2 : View.ld x1 r0_2 = x1 := View.ld_unit_zero hz2 _ _
  have l3 : View.ld x3 r0_3 = x3 := View.ld_unit_zero hz2 _ _
  have l4 : View.ld x4 r0_4 = x4 := View.ld_unit_zero hz2 _ _
  have l5 : View.ld x5 r0_5 = x5 := View.ld_unit_zero hz2 _ _
  have l6 : View.ld x6 r0_5 = x6 := View.ld_unit_zero hz2 _ _
  rw [View.canon_unit_zero hz2, l0, l1, l2, l3, l4, l5, l6]

theorem stored (hX : ∀ v p k, arg0 m c (ix3 v p k) = ((X v p k : ℝ) : EReal)) (hW1 : ∀ k h, arg1 m c (ix2 k h) = ((W1 k h : ℝ) : EReal))
    (hg1 : ∀ h, arg3 m c (ix1 h) = ((g1 h : ℝ) : EReal)) (hW2 : ∀ k h, arg5 m c (ix2 k h) = ((W2 k h : ℝ) : EReal))
    (hg2 : ∀ h, arg7 m c (ix1 h) = ((g2 h : ℝ) : EReal)) (hp : ∀ h, 0 ≤ g1 h) (h0 : ∀ h, g2 h ≠ 0)
    (t : Fin cfg0.N) (r : Fin 3200) (o : Fin 16) :
    k0_pay6 (F := Ideal) (k0_pay3 (iblk m c 0 t) (iblk m c 2 t)) (k0_pay4 (iblk m c 0 t) (iblk m c 2 t)) k0_pay5 (iblk m c 1 t) (iblk m c 3 t)
      (iblk m c 4 t) (iblk m c 5 t) (iblk m c 6 t) (ix2 r o) = target X W1 g1 W2 g2 (arg8 m c) (arg9 m c) (vox t r) o := by
  have hx : ∀ l, iblk m c 0 t (ix2 r l) = ((X (vox t r) (lanePt l) (laneCo l) : ℝ) : EReal) := by
    intro l
    rw [blk0, V_rows, ← hX]
    pointwise
    rfl
  have hn : iblk m c 1 t (ix2 r 0) = arg9 m c (ix1 (vox t r)) := by
    rw [blk1, V_counts]
    pointwise
  have ho : ∀ o, iblk m c 6 t (ix2 0 (outLane o)) = arg8 m c (ix1 o) := by
    intro o
    rw [blk6, V_offset, tile_apply, outCh_outLane]
  have h := stored_apply (x0 := iblk m c 0 t) (x1 := iblk m c 1 t) (x2 := iblk m c 2 t) (x3 := iblk m c 3 t) (x4 := iblk m c 4 t)
    (x5 := iblk m c 5 t) (x6 := iblk m c 6 t) (x := fun l => X (vox t r) (lanePt l) (laneCo l)) (wa := wideR W1) (be := spreadR g1)
    (wp := poolR W2 g2) (ig := invR g2) (r := r) hx
    (fun l q => by rw [blk2, V_wide, wide_apply hW1]) (fun l q => by rw [blk3, V_spread, spreadW_apply hg1])
    (fun q l => by rw [blk4, V_pool, poolW_real hW2 hg2]) (fun l => by rw [blk5, V_inv, invSq_apply hg2 h0])
    (fun l => one_div_nonneg.2 (mul_self_nonneg _)) o
  rw [hn, ho] at h
  refine h.trans ?_
  unfold target
  rw [← lanesOut_eq (x := fun l => X (vox t r) (lanePt l) (laneCo l)) (wa := wideR W1) (be := spreadR g1) (wp := poolR W2 g2) (ig := invR g2)
    (live (arg9 m c (ix1 (vox t r)))) (fun _ => rfl) (wideR_head W1) (wideR_tail W1) (fun _ _ => rfl) (fun _ _ => rfl) (fun _ => rfl) hp h0]

theorem final (hX : ∀ v p k, arg0 m c (ix3 v p k) = ((X v p k : ℝ) : EReal)) (hW1 : ∀ k h, arg1 m c (ix2 k h) = ((W1 k h : ℝ) : EReal))
    (hg1 : ∀ h, arg3 m c (ix1 h) = ((g1 h : ℝ) : EReal)) (hW2 : ∀ k h, arg5 m c (ix2 k h) = ((W2 k h : ℝ) : EReal))
    (hg2 : ∀ h, arg7 m c (ix1 h) = ((g2 h : ℝ) : EReal)) (hp : ∀ h, 0 ≤ g1 h) (h0 : ∀ h, g2 h ≠ 0) :
    (dats m 0 c).arrAt 7 cfg0.N = fun i : S400000x16.Idx => target X W1 g1 W2 g2 (arg8 m c) (arg9 m c) (i 0) (i 1) := by
  refine (dats m 0 c).arrAt_eq_of_covers 7 _ (by decide +kernel) fun t hf y => ?_
  have e0 : ((cfg0.win 7).blk t).view.emb y 0 = vox t (y 0) := Fin.ext (by blk_simp [idx7, vox])
  have e1 : ((cfg0.win 7).blk t).view.emb y 1 = y 1 := Fin.ext (by blk_simp [idx7])
  blk_simp
  rw [after0_7, out_eq]
  refine Eq.trans ?_ (congrArg₂ (target X W1 g1 W2 g2 (arg8 m c) (arg9 m c)) e0 e1).symm
  refine (congrArg _ (eq_ix2 (n0 := 3200) (n1 := 16) y)).trans ?_
  exact stored m c hX hW1 hg1 hW2 hg2 hp h0 t (y 0) (y 1)

end Cert.KernelIdeal.Result

end
-- ==== Proof.Reference.lean ====
/- The reference's result at an index: the real computation of the voxel and the last offset. -/
module

public import proofs.«01_k».proof.Proof.Gen.ReferenceIdeal.Read
public import proofs.«01_k».proof.Proof.Body
public import proofs.«01_k».proof.Proof.Common

@[expose] public section

noncomputable section

namespace Cert.ReferenceIdeal.AtIndex

open Cert.ReferenceIdeal Cert.ReferenceIdeal.Gen Cert.ReferenceIdeal.Read Cert.Voxel Idealize.ShloMosaic
open Cert.KernelIdeal.Body (live)

/-! ## A layer normalisation of real entries -/

/-- The mean, as the reference divides. -/
theorem mean_coe {Y : Fin 16 → EReal} {y : Fin 16 → ℝ} (hy : ∀ h, Y h = ((y h : ℝ) : EReal)) :
    Ideal.div (∑ h, Y h) (Ideal.ofBits .f32 0x41800000#32) = ((mean y : ℝ) : EReal) := by
  simp only [hy]
  rw [lit_sixteen, Ideal.div_coe (by norm_num), ← coe_sum, ← EReal.coe_mul]
  exact congrArg _ (by unfold mean; ring)

/-- The variance's divisor: sixteen less the correction zero. -/
theorem divisor : Ideal.ofBits .f32 0x41800000#32 - (FloatOps.sitofp .f32 (0#32 : BitVec 32) : Ideal .f32) = ((16 : ℝ) : EReal) := by
  rw [lit_sixteen]
  show ((16 : ℝ) : EReal) - ((((0#32 : BitVec 32).toInt : ℝ)) : EReal) = _
  rw [← EReal.coe_sub]
  exact congrArg _ (by norm_num)

/-- The variance, as the reference guards its divisor. -/
theorem var_coe {Y : Fin 16 → EReal} {y : Fin 16 → ℝ} (hy : ∀ h, Y h = ((y h : ℝ) : EReal)) (z : EReal) :
    (if 0 < Ideal.ofBits .f32 0x41800000#32 - (FloatOps.sitofp .f32 (0#32 : BitVec 32) : Ideal .f32) then
        Ideal.div (∑ h, (Y h - Ideal.div (∑ h, Y h) (Ideal.ofBits .f32 0x41800000#32)) * (Y h - Ideal.div (∑ h, Y h) (Ideal.ofBits .f32 0x41800000#32)))
          (Ideal.ofBits .f32 0x41800000#32 - (FloatOps.sitofp .f32 (0#32 : BitVec 32) : Ideal .f32))
      else z) = ((var y : ℝ) : EReal) := by
  rw [mean_coe hy, divisor, if_pos (by exact_mod_cast (by norm_num : (0 : ℝ) < 16)), Ideal.div_coe (by norm_num)]
  simp only [hy, ← EReal.coe_sub, ← EReal.coe_mul]
  rw [← coe_sum, ← EReal.coe_mul]
  exact congrArg _ (by unfold var; ring)

/-- The normalised entry before its offset. -/
theorem norm_coe (y g : Fin 16 → ℝ) (h : Fin 16) :
    (((y h : ℝ) : EReal) - ((mean y : ℝ) : EReal)) * Ideal.rsqrt (((var y : ℝ) : EReal) + Ideal.ofBits .f32 0x3727C5AC#32) * ((g h : ℝ) : EReal)
      = ((norm y g h : ℝ) : EReal) := by
  have hv : 0 < var y + eps := add_pos_of_nonneg_of_pos (var_nonneg y) eps_pos
  rw [lit_eps, ← EReal.coe_add, rsqrt_pos hv, ← EReal.coe_sub, ← EReal.coe_mul, ← EReal.coe_mul]
  rfl

/-- A point's weight: one if it is live, else zero. -/
theorem weight_coe (b : Bool) : (FloatOps.uitofp .f32 (BitVec.ofBool b) : Ideal .f32) = (((if b then 1 else 0 : ℝ)) : EReal) := by
  show ((((BitVec.ofBool b).toNat : ℝ)) : EReal) = _
  cases b <;> simp

/-! ## The stages -/

variable {x0 : FVec Ideal S400000x32x4 .f32} {x1 : FVec Ideal S4x16 .f32} {x2 x3 x4 : FVec Ideal S16 .f32} {x5 : FVec Ideal S16x16 .f32}
  {x6 x7 x8 : FVec Ideal S16 .f32} {x9 : IVec S400000 32}
variable {X : Fin 400000 → Fin 32 → Fin 4 → ℝ} {W1 : Fin 4 → Fin 16 → ℝ} {g1 : Fin 16 → ℝ} {W2 : Fin 16 → Fin 16 → ℝ} {g2 : Fin 16 → ℝ}

/-- The first linear layer. -/
theorem first (hX : ∀ v p k, x0 (ix3 v p k) = ((X v p k : ℝ) : EReal)) (hW1 : ∀ k h, x1 (ix2 k h) = ((W1 k h : ℝ) : EReal))
    (hb1 : ∀ h, x2 (ix1 h) = 0) (v : Fin 400000) (p : Fin 32) (h : Fin 16) :
    val_main_v10 (F := Ideal) x0 x1 x2 (ix3 v p h) = ((lin (X v) W1 p h : ℝ) : EReal) := by
  pointwise [val_main_v10, val_main_v9, val_main_v8, val_main_v7]
  simp only [hX, hW1, hb1, add_zero, ← EReal.coe_mul]
  rw [← coe_sum]
  rfl

/-- Its mean over the channels. -/
theorem mean1 (hX : ∀ v p k, x0 (ix3 v p k) = ((X v p k : ℝ) : EReal)) (hW1 : ∀ k h, x1 (ix2 k h) = ((W1 k h : ℝ) : EReal))
    (hb1 : ∀ h, x2 (ix1 h) = 0) (v : Fin 400000) (p : Fin 32) :
    val_main_v14 (F := Ideal) x0 x1 x2 (ix3 v p 0) = ((mean (lin (X v) W1 p) : ℝ) : EReal) := by
  pointwise [val_main_v14, val_main_v13, val_main_v12, val_main_v11, val_main_cst, val_main_cst_0]
  exact mean_coe fun h => first hX hW1 hb1 v p h

/-- Its variance over the channels. -/
theorem var1 (hX : ∀ v p k, x0 (ix3 v p k) = ((X v p k : ℝ) : EReal)) (hW1 : ∀ k h, x1 (ix2 k h) = ((W1 k h : ℝ) : EReal))
    (hb1 : ∀ h, x2 (ix1 h) = 0) (v : Fin 400000) (p : Fin 32) :
    val_main_v15 (F := Ideal) x0 x1 x2 (ix3 v p 0) = ((var (lin (X v) W1 p) : ℝ) : EReal) := by
  pointwise [val_main_v15, val_main_c, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_call0_v1, val_main_call0_call0_v0, val_main_call0_cst, val_main_call0_cst_0, val_main_call0_cst_1, val_main_call0_cst_2, val_main_call0_cst_3, val_main_call0_cst_4]
  exact var_coe (fun h => first hX hW1 hb1 v p h) _

/-- The first layer normalised, its negative part cut off. -/
theorem rect1 (hX : ∀ v p k, x0 (ix3 v p k) = ((X v p k : ℝ) : EReal)) (hW1 : ∀ k h, x1 (ix2 k h) = ((W1 k h : ℝ) : EReal))
    (hb1 : ∀ h, x2 (ix1 h) = 0)
    (hg1 : ∀ h, x3 (ix1 h) = ((g1 h : ℝ) : EReal)) (hbe1 : ∀ h, x4 (ix1 h) = 0) (v : Fin 400000) (p : Fin 32) (h : Fin 16) :
    val_main_v29 (F := Ideal) x0 x1 x2 x3 x4 (ix3 v p h) = ((max (norm (lin (X v) W1 p) g1 h) 0 : ℝ) : EReal) := by
  pointwise [val_main_v29, val_main_v28, val_main_v27, val_main_v26, val_main_v25, val_main_v24, val_main_v23, val_main_v22, val_main_v21, val_main_v20, val_main_v19, val_main_v18, val_main_v17, val_main_v16, val_main_cst_1, val_main_call1_v0, val_main_call1_cst]
  rw [first hX hW1 hb1, mean1 hX hW1 hb1, var1 hX hW1 hb1, hg1, hbe1, add_zero, norm_coe]
  exact coe_max _ 0

/-- The second layer with the points that are not live set to zero. -/
theorem masked (hX : ∀ v p k, x0 (ix3 v p k) = ((X v p k : ℝ) : EReal)) (hW1 : ∀ k h, x1 (ix2 k h) = ((W1 k h : ℝ) : EReal))
    (hb1 : ∀ h, x2 (ix1 h) = 0)
    (hg1 : ∀ h, x3 (ix1 h) = ((g1 h : ℝ) : EReal)) (hbe1 : ∀ h, x4 (ix1 h) = 0)
    (hW2 : ∀ k o, x5 (ix2 k o) = ((W2 k o : ℝ) : EReal)) (hb2 : ∀ o, x6 (ix1 o) = 0) (v : Fin 400000) (p : Fin 32) (o : Fin 16) :
    val_main_v36 (F := Ideal) x0 x1 x2 x3 x4 x5 x6 x9 (ix3 v p o)
      = ((second (X v) W1 g1 W2 p o * (if live (x9 (ix1 v)) p then 1 else 0) : ℝ) : EReal) := by
  pointwise [val_main_v36, val_main_v35, val_main_v34, val_main_v33, val_main_v32, val_main_v31, val_main_v30, val_main_v6, val_main_v5, val_main_v4, val_main_v3, val_main_v2, val_main_v1, val_main_v0]
  simp only [rect1 hX hW1 hb1 hg1 hbe1, hW2, hb2, add_zero, ← EReal.coe_mul]
  rw [← coe_sum, show IntOp.cmpi .slt (BitVec.ofNat 32 p.val) (x9 (ix1 v)) = BitVec.ofBool (live (x9 (ix1 v)) p) from rfl, weight_coe, ← EReal.coe_mul]
  rfl

/-- The points summed. -/
theorem summed (hX : ∀ v p k, x0 (ix3 v p k) = ((X v p k : ℝ) : EReal)) (hW1 : ∀ k h, x1 (ix2 k h) = ((W1 k h : ℝ) : EReal))
    (hb1 : ∀ h, x2 (ix1 h) = 0)
    (hg1 : ∀ h, x3 (ix1 h) = ((g1 h : ℝ) : EReal)) (hbe1 : ∀ h, x4 (ix1 h) = 0)
    (hW2 : ∀ k o, x5 (ix2 k o) = ((W2 k o : ℝ) : EReal)) (hb2 : ∀ o, x6 (ix1 o) = 0) (v : Fin 400000) (o : Fin 16) :
    val_main_v37 (F := Ideal) x0 x1 x2 x3 x4 x5 x6 x9 (ix2 v o) = ((pooled (X v) W1 g1 W2 (live (x9 (ix1 v))) o : ℝ) : EReal) := by
  pointwise [val_main_v37, val_main_cst_2]
  simp only [masked hX hW1 hb1 hg1 hbe1 hW2 hb2]
  rw [← coe_sum]
  rfl

/-- The sum's mean over the channels. -/
theorem mean2 (hX : ∀ v p k, x0 (ix3 v p k) = ((X v p k : ℝ) : EReal)) (hW1 : ∀ k h, x1 (ix2 k h) = ((W1 k h : ℝ) : EReal))
    (hb1 : ∀ h, x2 (ix1 h) = 0)
    (hg1 : ∀ h, x3 (ix1 h) = ((g1 h : ℝ) : EReal)) (hbe1 : ∀ h, x4 (ix1 h) = 0)
    (hW2 : ∀ k o, x5 (ix2 k o) = ((W2 k o : ℝ) : EReal)) (hb2 : ∀ o, x6 (ix1 o) = 0) (v : Fin 400000) :
    val_main_v41 (F := Ideal) x0 x1 x2 x3 x4 x5 x6 x9 (ix2 v 0) = ((mean (pooled (X v) W1 g1 W2 (live (x9 (ix1 v)))) : ℝ) : EReal) := by
  pointwise [val_main_v41, val_main_v40, val_main_v39, val_main_v38, val_main_cst_3, val_main_cst_4]
  exact mean_coe fun h => summed hX hW1 hb1 hg1 hbe1 hW2 hb2 v h

/-- The sum's variance over the channels. -/
theorem var2 (hX : ∀ v p k, x0 (ix3 v p k) = ((X v p k : ℝ) : EReal)) (hW1 : ∀ k h, x1 (ix2 k h) = ((W1 k h : ℝ) : EReal))
    (hb1 : ∀ h, x2 (ix1 h) = 0)
    (hg1 : ∀ h, x3 (ix1 h) = ((g1 h : ℝ) : EReal)) (hbe1 : ∀ h, x4 (ix1 h) = 0)
    (hW2 : ∀ k o, x5 (ix2 k o) = ((W2 k o : ℝ) : EReal)) (hb2 : ∀ o, x6 (ix1 o) = 0) (v : Fin 400000) :
    val_main_v42 (F := Ideal) x0 x1 x2 x3 x4 x5 x6 x9 (ix2 v 0) = ((var (pooled (X v) W1 g1 W2 (live (x9 (ix1 v)))) : ℝ) : EReal) := by
  pointwise [val_main_v42, val_main_c_5, val_main_call2_v13, val_main_call2_v12, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_call0_v1, val_main_call2_call0_v0, val_main_call2_cst, val_main_call2_cst_0, val_main_call2_cst_1, val_main_call2_cst_2, val_main_call2_cst_3, val_main_call2_cst_4]
  exact var_coe (fun h => summed hX hW1 hb1 hg1 hbe1 hW2 hb2 v h) _

/-- The reference's result. -/
theorem result (hX : ∀ v p k, x0 (ix3 v p k) = ((X v p k : ℝ) : EReal)) (hW1 : ∀ k h, x1 (ix2 k h) = ((W1 k h : ℝ) : EReal))
    (hb1 : ∀ h, x2 (ix1 h) = 0)
    (hg1 : ∀ h, x3 (ix1 h) = ((g1 h : ℝ) : EReal)) (hbe1 : ∀ h, x4 (ix1 h) = 0)
    (hW2 : ∀ k o, x5 (ix2 k o) = ((W2 k o : ℝ) : EReal)) (hb2 : ∀ o, x6 (ix1 o) = 0)
    (hg2 : ∀ o, x7 (ix1 o) = ((g2 o : ℝ) : EReal)) (v : Fin 400000) (o : Fin 16) :
    val_main_v55 (F := Ideal) x0 x1 x2 x3 x4 x5 x6 x7 x8 x9 (ix2 v o)
      = ((refOut (X v) W1 g1 W2 g2 (live (x9 (ix1 v))) o : ℝ) : EReal) + x8 (ix1 o) := by
  pointwise [val_main_v55, val_main_v54, val_main_v53, val_main_v52, val_main_v51, val_main_v50, val_main_v49, val_main_v48, val_main_v47, val_main_v46, val_main_v45, val_main_v44, val_main_v43, val_main_cst_6]
  rw [summed hX hW1 hb1 hg1 hbe1 hW2 hb2, mean2 hX hW1 hb1 hg1 hbe1 hW2 hb2, var2 hX hW1 hb1 hg1 hbe1 hW2 hb2, hg2, norm_coe]
  rfl

end Cert.ReferenceIdeal.AtIndex

end
-- ==== Proof.Precondition.lean ====
/- What the precondition says of the arguments: real entries, zero biases, a scale that is not negative and one that is not zero. -/
module

public import proofs.«01_k».proof.Pre_inputs_regular
public import proofs.«01_k».proof.Proof.Common
public import Idealize.ShloMosaic.Lib.ReduceAll

@[expose] public section

noncomputable section

namespace Cert.Pre_inputs_regular

open Idealize.ShloMosaic Cert.Voxel

/-- The shape relations the predicate states. -/
theorem facts : Cert.Pre_inputs_regular.Facts where
  bcast_S_S400000x32x4 := by decide
  reducesTo_S400000x32x4_S_d0_1_2 := by decide
  h_S_ := by decide
  bcast_S_S4x16 := by decide
  reducesTo_S4x16_S_d0_1 := by decide
  bcast_S_S16x16 := by decide
  reducesTo_S16x16_S_d0_1 := by decide
  bcast_S_S16 := by decide
  reducesTo_S16_S_d0 := by decide

/-- A conjunction of two single bits that is one has both. -/
theorem both {a b : BitVec 1} (h : a &&& b = 1#1) : a = 1#1 ∧ b = 1#1 := by
  revert a b; decide

/-- An absolute value below infinity is a real's. -/
theorem real_of_abs {x : EReal} (h : max x (-x) < ⊤) : ∃ r : ℝ, x = (r : EReal) := by
  induction x with
  | bot => simp at h
  | coe r => exact ⟨r, rfl⟩
  | top => simp at h

variable [Cert.Pre_inputs_regular.Facts]
open Facts

/-- There is one index of the empty shape. -/
theorem one_index : Subsingleton S_.Idx := ⟨fun a b => funext fun i => i.elim0⟩

variable {x0 : FVec Ideal S400000x32x4 .f32} {x1 : FVec Ideal S4x16 .f32} {x2 x3 x4 : FVec Ideal S16 .f32} {x5 : FVec Ideal S16x16 .f32}
  {x6 x7 x8 : FVec Ideal S16 .f32} {x9 : IVec S400000 32}

/-- A comparison of extended reals with result one holds. -/
theorem holds {p : Prop} [Decidable p] (h : BitVec.ofBool (decide p) = 1#1) : p := by
  by_contra hp
  simp [hp] at h

/-- Every entry's absolute value is below infinity: every entry is real. -/
theorem real_of {s : Shape} {x y : FVec Ideal s .f32} (hy : ∀ i, y i = ⊤) (i : s.Idx) (h : cmpf .olt (Host.absf x) y i = 1#1) :
    ∃ r : ℝ, x i = (r : EReal) := by
  have e : max (x i) (-(x i)) < y i := holds h
  rw [hy] at e
  exact real_of_abs e

/-- The precondition, one argument at a time. -/
theorem split (h : ∀ i, Cert.Pre_inputs_regular.fn (F := Ideal) x0 x1 x2 x3 x4 x5 x6 x7 x8 x9 i = 1#1) :
    (∀ i, ∃ r : ℝ, x0 i = (r : EReal)) ∧ (∀ i, ∃ r : ℝ, x1 i = (r : EReal)) ∧ (∀ i, ∃ r : ℝ, x5 i = (r : EReal))
      ∧ (∀ i, x2 i = 0) ∧ (∀ i, x4 i = 0) ∧ (∀ i, x6 i = 0)
      ∧ (∀ i, ∃ r : ℝ, x3 i = (r : EReal)) ∧ (∀ i, 0 ≤ x3 i) ∧ (∀ i, ∃ r : ℝ, x7 i = (r : EReal)) ∧ (∀ i, x7 i ≠ 0) := by
  have e := h ix0
  haveI := one_index
  unfold fn fn_part1 fn_part2 at e
  dsimp only [andi] at e
  obtain ⟨e, h9⟩ := both e
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨e, h2⟩ := both e
  obtain ⟨h0, h1⟩ := both e
  have z : Ideal.ofBits .f32 0x00000000#32 = (0 : EReal) := lit_zero
  refine ⟨fun i => real_of (fun _ => lit_inf) i (Host.reduce_andi_all _ _ _ _ _ h0 i),
    fun i => real_of (fun _ => lit_inf) i (Host.reduce_andi_all _ _ _ _ _ h1 i),
    fun i => real_of (fun _ => lit_inf) i (Host.reduce_andi_all _ _ _ _ _ h2 i),
    fun i => ?_, fun i => ?_, fun i => ?_,
    fun i => real_of (fun _ => lit_inf) i (Host.reduce_andi_all _ _ _ _ _ h6 i), fun i => ?_,
    fun i => real_of (fun _ => lit_inf) i (Host.reduce_andi_all _ _ _ _ _ h8 i), fun i => ?_⟩
  · exact (holds (p := x2 i = Ideal.ofBits .f32 0x00000000#32) (Host.reduce_andi_all _ _ _ _ _ h3 i)).trans z
  · exact (holds (p := x4 i = Ideal.ofBits .f32 0x00000000#32) (Host.reduce_andi_all _ _ _ _ _ h4 i)).trans z
  · exact (holds (p := x6 i = Ideal.ofBits .f32 0x00000000#32) (Host.reduce_andi_all _ _ _ _ _ h5 i)).trans z
  · exact z.ge.trans (holds (p := Ideal.ofBits .f32 0x00000000#32 ≤ x3 i) (Host.reduce_andi_all _ _ _ _ _ h7 i))
  · exact fun hz => holds (p := x7 i ≠ Ideal.ofBits .f32 0x00000000#32) (Host.reduce_andi_all _ _ _ _ _ h9 i) (hz.trans z.symm)

end Cert.Pre_inputs_regular

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.SL.Sem

attribute [local instance] Cert.Pre_inputs_regular.facts

/-- The reference keeps its arguments and ends with its counters at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, from arguments that meet the precondition. -/
theorem equal : Cert.algebraic_KernelIdeal_ReferenceIdeal_pre_inputs_regular := by
  intro m g m' g' hpre hag
  refine ⟨fun c => (Cert.KernelIdeal.Gen.dats m 0 c).arrAt 7 Cert.KernelIdeal.cfg0.N,
    (θ_run Cert.KernelIdeal.defs _ _).mono (fun r h c => h c) (Cert.KernelIdeal.Value.run_blocks m g),
    (θ_run Cert.ReferenceIdeal.defs _ _).mono (fun r h c => ⟨(h c).1.trans ?_, (h c).2⟩) (Cert.ReferenceIdeal.Value.run (F := Ideal) m' g')⟩
  obtain ⟨p0, p1, p5, p2, p4, p6, p3, q3, p7, q7⟩ := Cert.Pre_inputs_regular.split fun i => congrFun (hpre c) i
  choose X hX using p0
  choose W1 hW1 using p1
  choose W2 hW2 using p5
  choose g1 hg1 using p3
  choose g2 hg2 using p7
  obtain ⟨a0, a1, a2, a3, a4, a5, a6, a7, a8, a9⟩ := hag c
  rw [Cert.ReferenceIdeal.Read.val_main_v55_eq, a0, a1, a2, a3, a4, a5, a6, a7, a8, a9]
  refine Eq.trans ?_ (Cert.KernelIdeal.Result.final m c (X := fun v p k => X (ix3 v p k)) (W1 := fun k h => W1 (ix2 k h)) (g1 := fun h => g1 (ix1 h))
    (W2 := fun h o => W2 (ix2 h o)) (g2 := fun o => g2 (ix1 o)) (fun v p k => hX _) (fun k h => hW1 _) (fun h => hg1 _) (fun h o => hW2 _)
    (fun o => hg2 _) (fun h => EReal.coe_nonneg.1 ((hg1 _).subst (q3 _))) (fun o hz => q7 (ix1 o) ((hg2 _).trans (by rw [hz]; rfl)))).symm
  funext i
  refine (congrArg _ (eq_ix2 (n0 := 400000) (n1 := 16) i)).trans ?_
  exact Cert.ReferenceIdeal.AtIndex.result (X := fun v p k => X (ix3 v p k)) (W1 := fun k h => W1 (ix2 k h)) (g1 := fun h => g1 (ix1 h))
    (W2 := fun h o => W2 (ix2 h o)) (g2 := fun o => g2 (ix1 o)) (fun v p k => hX _) (fun k h => hW1 _) (fun h => p2 _) (fun h => hg1 _) (fun h => p4 _)
    (fun h o => hW2 _) (fun o => p6 _) (fun o => hg2 _) (i 0) (i 1)

theorem claim : Cert.Claim :=
  ⟨Cert.Kernel.Gen.facts, Cert.KernelIdeal.Gen.facts, Cert.ReferenceIdeal.Gen.facts, Cert.Pre_inputs_regular.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, equal⟩

end Cert.Proof

end
